-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_below_infinity_shapes_small [hPre_codes_below_infinity_shapes_small : Cert.Pre_codes_below_infinity_shapes_small.Facts] (m : (ℓ : Loc Cert.KernelIdeal.nD Cert.KernelIdeal.τ Cert.KernelIdeal.sig) → Buf (Elt Ideal) ℓ) : Prop :=
  ∀ c : Dev Cert.KernelIdeal.nD,
    (Cert.Pre_codes_below_infinity_shapes_small.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_codes_below_infinity_shapes_small.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_codes_below_infinity_shapes_small.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_codes_below_infinity_shapes_small.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_codes_below_infinity_shapes_small.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_codes_below_infinity_shapes_small.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_below_infinity_shapes_small [hPre_codes_below_infinity_shapes_small : Cert.Pre_codes_below_infinity_shapes_small.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_below_infinity_shapes_small.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_codes_below_infinity_shapes_small.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_codes_below_infinity_shapes_small.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_codes_below_infinity_shapes_small.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_codes_below_infinity_shapes_small.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_codes_below_infinity_shapes_small.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_codes_below_infinity_shapes_small [hKernelIdeal : Cert.KernelIdeal.Facts] [hPre_codes_below_infinity_shapes_small : Cert.Pre_codes_below_infinity_shapes_small.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_below_infinity_shapes_small m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_codes_below_infinity_shapes_small [hReferenceIdeal : Cert.ReferenceIdeal.Facts] [hPre_codes_below_infinity_shapes_small : Cert.Pre_codes_below_infinity_shapes_small.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_below_infinity_shapes_small m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_codes_below_infinity_shapes_small [hKernelIdeal : Cert.KernelIdeal.Facts] [hReferenceIdeal : Cert.ReferenceIdeal.Facts] [hPre_codes_below_infinity_shapes_small : Cert.Pre_codes_below_infinity_shapes_small.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_below_infinity_shapes_small m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_v251) = v1 c
          ∧ r.2.mem ((c.tc : Thread Cert.ReferenceIdeal.nD Cert.ReferenceIdeal.τ).loc Cert.ReferenceIdeal.main_v189) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_codes_below_infinity_shapes_small : Cert.Pre_codes_below_infinity_shapes_small.Facts),
    quiescent_Kernel (hKernel := hKernel)
    ∧ quiescent_KernelIdeal (hKernelIdeal := hKernelIdeal)
    ∧ quiescent_KernelIdeal_pre_codes_below_infinity_shapes_small (hKernelIdeal := hKernelIdeal) (hPre_codes_below_infinity_shapes_small := hPre_codes_below_infinity_shapes_small)
    ∧ quiescent_ReferenceIdeal (hReferenceIdeal := hReferenceIdeal)
    ∧ quiescent_ReferenceIdeal_pre_codes_below_infinity_shapes_small (hReferenceIdeal := hReferenceIdeal) (hPre_codes_below_infinity_shapes_small := hPre_codes_below_infinity_shapes_small)
    ∧ preserves_Kernel_KernelIdeal
    ∧ algebraic_KernelIdeal_ReferenceIdeal_pre_codes_below_infinity_shapes_small (hKernelIdeal := hKernelIdeal) (hReferenceIdeal := hReferenceIdeal) (hPre_codes_below_infinity_shapes_small := hPre_codes_below_infinity_shapes_small)
-- ==== Pre_codes_below_infinity_shapes_small.lean ====
abbrev S16384x768 : Shape := ⟨2, ![16384, 768]⟩
abbrev S768x1024 : Shape := ⟨2, ![768, 1024]⟩
abbrev S1024 : Shape := ⟨1, ![1024]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S64x512 : Shape := ⟨2, ![64, 512]⟩
abbrev S512x1024 : Shape := ⟨2, ![512, 1024]⟩
abbrev S1024x768 : Shape := ⟨2, ![1024, 768]⟩
abbrev S768 : Shape := ⟨1, ![768]⟩
abbrev S256x64 : Shape := ⟨2, ![256, 64]⟩
abbrev S_ : Shape := ⟨0, ![]⟩

class Facts : Prop where
  bcast_S_S256x64 : S_.BroadcastsInDim S256x64 (![] : Fin 0 → Fin S256x64.rank)
  bcast_S_S64 : S_.BroadcastsInDim S64 (![] : Fin 0 → Fin S64.rank)

variable [Facts]

def fn {F : FTy → Type} [FloatOps F] (main_arg0 : FVec F S16384x768 .f32) (main_arg1 : FVec F S768x1024 .f32) (main_arg2 : FVec F S1024 .f32) (main_arg3 : FVec F S1024x512 .f32) (main_arg4 : FVec F S512 .f32) (main_arg5 : FVec F S512x64 .f32) (main_arg6 : FVec F S64 .f32) (main_arg7 : FVec F S64x512 .f32) (main_arg8 : FVec F S512 .f32) (main_arg9 : FVec F S512x1024 .f32) (main_arg10 : FVec F S1024 .f32) (main_arg11 : FVec F S1024x768 .f32) (main_arg12 : FVec F S768 .f32) (main_arg13 : FVec F S256x64 .f32) (main_arg14 : FVec F S256x64 .f32) (main_arg15 : FVec F S256x64 .f32) (main_arg16 : FVec F S256x64 .f32) (main_arg17 : FVec F S64 .f32) (main_arg18 : FVec F S64 .f32) : IVec S256x64 1 × IVec S256x64 1 × IVec S256x64 1 × IVec S256x64 1 × IVec S64 1 × IVec S64 1 :=
  let main_cst : FVec F S_ .f32 := constant S_ .f32 0x7F800000#32
  let main_v0 : FVec F S256x64 .f32 := broadcastInDim S256x64 ![] bcast_S_S256x64 main_cst
  let main_v1 : IVec S256x64 1 := cmpf .olt main_arg13 main_v0
  let main_cst_0 : FVec F S_ .f32 := constant S_ .f32 0x7F800000#32
  let main_v2 : FVec F S256x64 .f32 := broadcastInDim S256x64 ![] bcast_S_S256x64 main_cst_0
  let main_v3 : IVec S256x64 1 := cmpf .olt main_arg14 main_v2
  let main_cst_1 : FVec F S_ .f32 := constant S_ .f32 0x7F800000#32
  let main_v4 : FVec F S256x64 .f32 := broadcastInDim S256x64 ![] bcast_S_S256x64 main_cst_1
  let main_v5 : IVec S256x64 1 := cmpf .olt main_arg15 main_v4
  let main_cst_2 : FVec F S_ .f32 := constant S_ .f32 0x7F800000#32
  let main_v6 : FVec F S256x64 .f32 := broadcastInDim S256x64 ![] bcast_S_S256x64 main_cst_2
  let main_v7 : IVec S256x64 1 := cmpf .olt main_arg16 main_v6
  let main_cst_3 : FVec F S_ .f32 := constant S_ .f32 0x41A00000#32
  let main_v8 : FVec F S64 .f32 := broadcastInDim S64 ![] bcast_S_S64 main_cst_3
  let main_v9 : IVec S64 1 := cmpf .ole main_arg17 main_v8
  let main_cst_4 : FVec F S_ .f32 := constant S_ .f32 0x41A00000#32
  let main_v10 : FVec F S64 .f32 := broadcastInDim S64 ![] bcast_S_S64 main_cst_4
  let main_v11 : IVec S64 1 := cmpf .ole main_arg18 main_v10
  (main_v1, main_v3, main_v5, main_v7, main_v9, main_v11)
-- ==== Kernel.lean ====
abbrev S16384x768 : Shape := ⟨2, ![16384, 768]⟩
abbrev S768x1024 : Shape := ⟨2, ![768, 1024]⟩
abbrev S1024 : Shape := ⟨1, ![1024]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S64x512 : Shape := ⟨2, ![64, 512]⟩
abbrev S512x1024 : Shape := ⟨2, ![512, 1024]⟩
abbrev S1024x768 : Shape := ⟨2, ![1024, 768]⟩
abbrev S768 : Shape := ⟨1, ![768]⟩
abbrev S256x64 : Shape := ⟨2, ![256, 64]⟩
abbrev S1x256x64 : Shape := ⟨3, ![1, 256, 64]⟩
abbrev S4x256x64 : Shape := ⟨3, ![4, 256, 64]⟩
abbrev S1x1024 : Shape := ⟨2, ![1, 1024]⟩
abbrev S1x512 : Shape := ⟨2, ![1, 512]⟩
abbrev S1x64 : Shape := ⟨2, ![1, 64]⟩
abbrev S1x768 : Shape := ⟨2, ![1, 768]⟩
abbrev S4x16384 : Shape := ⟨2, ![4, 16384]⟩
abbrev S1x1 : Shape := ⟨2, ![1, 1]⟩
abbrev S2048x768 : Shape := ⟨2, ![2048, 768]⟩
abbrev S4x2048 : Shape := ⟨2, ![4, 2048]⟩
abbrev S2048x1024 : Shape := ⟨2, ![2048, 1024]⟩
abbrev S2048x512 : Shape := ⟨2, ![2048, 512]⟩
abbrev S2048x64 : Shape := ⟨2, ![2048, 64]⟩
abbrev S2048x256 : Shape := ⟨2, ![2048, 256]⟩
abbrev S256 : Shape := ⟨1, ![256]⟩
abbrev S2048 : Shape := ⟨1, ![2048]⟩
abbrev S2048x1 : Shape := ⟨2, ![2048, 1]⟩
abbrev S1x256 : Shape := ⟨2, ![1, 256]⟩
abbrev S1x2048 : Shape := ⟨2, ![1, 2048]⟩
abbrev S1x2048x64 : Shape := ⟨3, ![1, 2048, 64]⟩
abbrev S1 : Shape := ⟨1, ![1]⟩
abbrev S1x1x1 : Shape := ⟨3, ![1, 1, 1]⟩
abbrev S_ : Shape := ⟨0, ![]⟩
abbrev S16384x4 : Shape := ⟨2, ![16384, 4]⟩

abbrev nBuf : Space → Nat
  | .hbm => 48
  | .vmem => 21
  | .smem => 2
  | _ => 0

abbrev bufTy : (tb : Table) → Fin (tcTables nBuf tb) → BufTy
  | .hbm, ⟨0, _⟩ => ⟨S16384x768, .f32⟩
  | .hbm, ⟨1, _⟩ => ⟨S768x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S512x64, .f32⟩
  | .hbm, ⟨6, _⟩ => ⟨S64, .f32⟩
  | .hbm, ⟨7, _⟩ => ⟨S64x512, .f32⟩
  | .hbm, ⟨8, _⟩ => ⟨S512, .f32⟩
  | .hbm, ⟨9, _⟩ => ⟨S512x1024, .f32⟩
  | .hbm, ⟨10, _⟩ => ⟨S1024, .f32⟩
  | .hbm, ⟨11, _⟩ => ⟨S1024x768, .f32⟩
  | .hbm, ⟨12, _⟩ => ⟨S768, .f32⟩
  | .hbm, ⟨13, _⟩ => ⟨S256x64, .f32⟩
  | .hbm, ⟨14, _⟩ => ⟨S256x64, .f32⟩
  | .hbm, ⟨15, _⟩ => ⟨S256x64, .f32⟩
  | .hbm, ⟨16, _⟩ => ⟨S256x64, .f32⟩
  | .hbm, ⟨17, _⟩ => ⟨S64, .f32⟩
  | .hbm, ⟨18, _⟩ => ⟨S64, .f32⟩
  | .hbm, ⟨19, _⟩ => ⟨S1x256x64, .f32⟩
  | .hbm, ⟨20, _⟩ => ⟨S1x256x64, .f32⟩
  | .hbm, ⟨21, _⟩ => ⟨S1x256x64, .f32⟩
  | .hbm, ⟨22, _⟩ => ⟨S1x256x64, .f32⟩
  | .hbm, ⟨23, _⟩ => ⟨S4x256x64, .f32⟩
  | .hbm, ⟨24, _⟩ => ⟨S1x1024, .f32⟩
  | .hbm, ⟨25, _⟩ => ⟨S1x512, .f32⟩
  | .hbm, ⟨26, _⟩ => ⟨S1x64, .f32⟩
  | .hbm, ⟨27, _⟩ => ⟨S1x512, .f32⟩
  | .hbm, ⟨28, _⟩ => ⟨S1x1024, .f32⟩
  | .hbm, ⟨29, _⟩ => ⟨S1x768, .f32⟩
  | .hbm, ⟨30, _⟩ => ⟨S1x64, .f32⟩
  | .hbm, ⟨31, _⟩ => ⟨S1x64, .f32⟩
  | .hbm, ⟨32, _⟩ => ⟨S1x1024, .f32⟩
  | .hbm, ⟨33, _⟩ => ⟨S1x512, .f32⟩
  | .hbm, ⟨34, _⟩ => ⟨S1x64, .f32⟩
  | .hbm, ⟨35, _⟩ => ⟨S1x512, .f32⟩
  | .hbm, ⟨36, _⟩ => ⟨S1x1024, .f32⟩
  | .hbm, ⟨37, _⟩ => ⟨S1x768, .f32⟩
  | .hbm, ⟨38, _⟩ => ⟨S1x64, .f32⟩
  | .hbm, ⟨39, _⟩ => ⟨S1x64, .f32⟩
  | .hbm, ⟨40, _⟩ => ⟨S16384x768, .f32⟩
  | .hbm, ⟨41, _⟩ => ⟨S4x16384, .i32⟩
  | .hbm, ⟨42, _⟩ => ⟨S1x1, .f32⟩
  | .hbm, ⟨43, _⟩ => ⟨S1x1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S16384x4, .i32⟩
  | .local _ .vmem, ⟨0, _⟩ => ⟨S2048x768, .f32⟩
  | .local _ .vmem, ⟨1, _⟩ => ⟨S2048x768, .f32⟩
  | .local _ .vmem, ⟨2, _⟩ => ⟨S768x1024, .f32⟩
  | .local _ .vmem, ⟨3, _⟩ => ⟨S1x1024, .f32⟩
  | .local _ .vmem, ⟨4, _⟩ => ⟨S1024x512, .f32⟩
  | .local _ .vmem, ⟨5, _⟩ => ⟨S1x512, .f32⟩
  | .local _ .vmem, ⟨6, _⟩ => ⟨S512x64, .f32⟩
  | .local _ .vmem, ⟨7, _⟩ => ⟨S1x64, .f32⟩
  | .local _ .vmem, ⟨8, _⟩ => ⟨S64x512, .f32⟩
  | .local _ .vmem, ⟨9, _⟩ => ⟨S1x512, .f32⟩
  | .local _ .vmem, ⟨10, _⟩ => ⟨S512x1024, .f32⟩
  | .local _ .vmem, ⟨11, _⟩ => ⟨S1x1024, .f32⟩
  | .local _ .vmem, ⟨12, _⟩ => ⟨S1024x768, .f32⟩
  | .local _ .vmem, ⟨13, _⟩ => ⟨S1x768, .f32⟩
  | .local _ .vmem, ⟨14, _⟩ => ⟨S4x256x64, .f32⟩
  | .local _ .vmem, ⟨15, _⟩ => ⟨S1x64, .f32⟩
  | .local _ .vmem, ⟨16, _⟩ => ⟨S1x64, .f32⟩
  | .local _ .vmem, ⟨17, _⟩ => ⟨S2048x768, .f32⟩
  | .local _ .vmem, ⟨18, _⟩ => ⟨S2048x768, .f32⟩
  | .local _ .vmem, ⟨19, _⟩ => ⟨S4x2048, .i32⟩
  | .local _ .vmem, ⟨20, _⟩ => ⟨S4x2048, .i32⟩
  | .local _ .smem, ⟨0, _⟩ => ⟨S1x1, .f32⟩
  | .local _ .smem, ⟨1, _⟩ => ⟨S1x1, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21_0 : Ref sig .tc := ⟨.hbm, 40, rfl⟩
abbrev main_v21_1 : Ref sig .tc := ⟨.hbm, 41, rfl⟩
abbrev main_v21_2 : Ref sig .tc := ⟨.hbm, 42, rfl⟩
abbrev main_v21_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.smem, 0, rfl⟩
abbrev cc0_stg19_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem19_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2048x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x2048 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .smem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .smem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S16384x768 : Shape := ⟨2, ![16384, 768]⟩
abbrev S768x1024 : Shape := ⟨2, ![768, 1024]⟩
abbrev S1024 : Shape := ⟨1, ![1024]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S64x512 : Shape := ⟨2, ![64, 512]⟩
abbrev S512x1024 : Shape := ⟨2, ![512, 1024]⟩
abbrev S1024x768 : Shape := ⟨2, ![1024, 768]⟩
abbrev S768 : Shape := ⟨1, ![768]⟩
abbrev S256x64 : Shape := ⟨2, ![256, 64]⟩
abbrev S16384x1024 : Shape := ⟨2, ![16384, 1024]⟩
abbrev S1x1024 : Shape := ⟨2, ![1, 1024]⟩
abbrev S_ : Shape := ⟨0, ![]⟩
abbrev S16384x512 : Shape := ⟨2, ![16384, 512]⟩
abbrev S1x512 : Shape := ⟨2, ![1, 512]⟩
abbrev S16384x64 : Shape := ⟨2, ![16384, 64]⟩
abbrev S1x64 : Shape := ⟨2, ![1, 64]⟩
abbrev S16384 : Shape := ⟨1, ![16384]⟩
abbrev S16384x1 : Shape := ⟨2, ![16384, 1]⟩
abbrev S64x256 : Shape := ⟨2, ![64, 256]⟩
abbrev S16384x256 : Shape := ⟨2, ![16384, 256]⟩
abbrev S256 : Shape := ⟨1, ![256]⟩
abbrev S1x256 : Shape := ⟨2, ![1, 256]⟩
abbrev S1 : Shape := ⟨1, ![1]⟩
abbrev S4 : Shape := ⟨1, ![4]⟩
abbrev S16384x4 : Shape := ⟨2, ![16384, 4]⟩
abbrev S1x768 : Shape := ⟨2, ![1, 768]⟩

abbrev nBuf : Space → Nat
  | .hbm => 530
  | .vmem => 0
  | .smem => 0
  | _ => 0

abbrev hbmTy0_0 (i : Nat) : BufTy := match i % 128 with
  | 0 => ⟨S16384x768, .f32⟩
  | 1 => ⟨S768x1024, .f32⟩
  | 2 => ⟨S1024, .f32⟩
  | 3 => ⟨S1024x512, .f32⟩
  | 4 => ⟨S512, .f32⟩
  | 5 => ⟨S512x64, .f32⟩
  | 6 => ⟨S64, .f32⟩
  | 7 => ⟨S64x512, .f32⟩
  | 8 => ⟨S512, .f32⟩
  | 9 => ⟨S512x1024, .f32⟩
  | 10 => ⟨S1024, .f32⟩
  | 11 => ⟨S1024x768, .f32⟩
  | 12 => ⟨S768, .f32⟩
  | 13 => ⟨S256x64, .f32⟩
  | 14 => ⟨S256x64, .f32⟩
  | 15 => ⟨S256x64, .f32⟩
  | 16 => ⟨S256x64, .f32⟩
  | 17 => ⟨S64, .f32⟩
  | 18 => ⟨S64, .f32⟩
  | 19 => ⟨S16384x1024, .f32⟩
  | 20 => ⟨S1x1024, .f32⟩
  | 21 => ⟨S16384x1024, .f32⟩
  | 22 => ⟨S16384x1024, .f32⟩
  | 23 => ⟨S_, .f32⟩
  | 24 => ⟨S16384x1024, .f32⟩
  | 25 => ⟨S16384x1024, .f32⟩
  | 26 => ⟨S16384x512, .f32⟩
  | 27 => ⟨S1x512, .f32⟩
  | 28 => ⟨S16384x512, .f32⟩
  | 29 => ⟨S16384x512, .f32⟩
  | 30 => ⟨S_, .f32⟩
  | 31 => ⟨S16384x512, .f32⟩
  | 32 => ⟨S16384x512, .f32⟩
  | 33 => ⟨S16384x64, .f32⟩
  | 34 => ⟨S1x64, .f32⟩
  | 35 => ⟨S16384x64, .f32⟩
  | 36 => ⟨S16384x64, .f32⟩
  | 37 => ⟨S_, .f32⟩
  | 38 => ⟨S64, .f32⟩
  | 39 => ⟨S64, .f32⟩
  | 40 => ⟨S64, .f32⟩
  | 41 => ⟨S64, .f32⟩
  | 42 => ⟨S64, .i1⟩
  | 43 => ⟨S64, .f32⟩
  | 44 => ⟨S64, .f32⟩
  | 45 => ⟨S64, .f32⟩
  | 46 => ⟨S64, .f32⟩
  | 47 => ⟨S64, .f32⟩
  | 48 => ⟨S64, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S64, .f32⟩
  | 58 => ⟨S64, .f32⟩
  | 59 => ⟨S64, .i1⟩
  | 60 => ⟨S64, .f32⟩
  | 61 => ⟨S64, .f32⟩
  | 62 => ⟨S64, .f32⟩
  | 63 => ⟨S64, .f32⟩
  | 64 => ⟨S64, .f32⟩
  | 65 => ⟨S64, .f32⟩
  | 66 => ⟨S64, .f32⟩
  | 67 => ⟨S64, .f32⟩
  | 68 => ⟨S_, .f32⟩
  | 69 => ⟨S64, .f32⟩
  | 70 => ⟨S64, .f32⟩
  | 71 => ⟨S16384x64, .f32⟩
  | 72 => ⟨S16384x64, .f32⟩
  | 73 => ⟨S_, .f32⟩
  | 74 => ⟨S16384x64, .f32⟩
  | 75 => ⟨S16384x64, .f32⟩
  | 76 => ⟨S_, .f32⟩
  | 77 => ⟨S16384x64, .f32⟩
  | 78 => ⟨S16384x64, .f32⟩
  | 79 => ⟨S_, .f32⟩
  | 80 => ⟨S_, .f32⟩
  | 81 => ⟨S_, .f32⟩
  | 82 => ⟨S16384x64, .f32⟩
  | 83 => ⟨S16384x64, .f32⟩
  | 84 => ⟨S_, .f32⟩
  | 85 => ⟨S16384x64, .f32⟩
  | 86 => ⟨S16384x64, .f32⟩
  | 87 => ⟨S1x64, .f32⟩
  | 88 => ⟨S16384x64, .f32⟩
  | 89 => ⟨S16384x64, .f32⟩
  | 90 => ⟨S_, .f32⟩
  | 91 => ⟨S16384x64, .f32⟩
  | 92 => ⟨S16384x64, .f32⟩
  | 93 => ⟨S_, .f32⟩
  | 94 => ⟨S_, .f32⟩
  | 95 => ⟨S_, .f32⟩
  | 96 => ⟨S16384x64, .f32⟩
  | 97 => ⟨S16384x64, .f32⟩
  | 98 => ⟨S_, .f32⟩
  | 99 => ⟨S16384x64, .f32⟩
  | 100 => ⟨S16384x64, .f32⟩
  | 101 => ⟨S1x64, .f32⟩
  | 102 => ⟨S16384x64, .f32⟩
  | 103 => ⟨S16384x64, .f32⟩
  | 104 => ⟨S_, .f32⟩
  | 105 => ⟨S16384x64, .f32⟩
  | 106 => ⟨S16384x64, .f32⟩
  | 107 => ⟨S_, .f32⟩
  | 108 => ⟨S_, .f32⟩
  | 109 => ⟨S_, .f32⟩
  | 110 => ⟨S16384x64, .f32⟩
  | 111 => ⟨S16384x64, .f32⟩
  | 112 => ⟨S_, .f32⟩
  | 113 => ⟨S16384x64, .f32⟩
  | 114 => ⟨S16384x64, .f32⟩
  | 115 => ⟨S_, .f32⟩
  | 116 => ⟨S16384x64, .f32⟩
  | 117 => ⟨S16384x64, .f32⟩
  | 118 => ⟨S_, .f32⟩
  | 119 => ⟨S16384, .f32⟩
  | 120 => ⟨S16384x1, .f32⟩
  | 121 => ⟨S_, .f32⟩
  | 122 => ⟨S16384x64, .f32⟩
  | 123 => ⟨S16384x64, .f32⟩
  | 124 => ⟨S64x256, .f32⟩
  | 125 => ⟨S16384x256, .f32⟩
  | 126 => ⟨S16384x256, .f32⟩
  | 127 => ⟨S16384x256, .f32⟩
  | _ => ⟨S16384x768, .f32⟩

abbrev hbmTy0_1 (i : Nat) : BufTy := match i % 128 with
  | 0 => ⟨S256x64, .f32⟩
  | 1 => ⟨S_, .f32⟩
  | 2 => ⟨S256, .f32⟩
  | 3 => ⟨S1x256, .f32⟩
  | 4 => ⟨S16384x256, .f32⟩
  | 5 => ⟨S16384x256, .f32⟩
  | 6 => ⟨S16384x256, .i32⟩
  | 7 => ⟨S_, .f32⟩
  | 8 => ⟨S_, .i32⟩
  | 9 => ⟨S16384, .f32⟩
  | 10 => ⟨S16384, .i32⟩
  | 11 => ⟨S_, .i32⟩
  | 12 => ⟨S16384, .i32⟩
  | 13 => ⟨S16384, .i1⟩
  | 14 => ⟨S_, .i32⟩
  | 15 => ⟨S16384, .i32⟩
  | 16 => ⟨S16384, .i32⟩
  | 17 => ⟨S16384, .i32⟩
  | 18 => ⟨S16384x1, .i32⟩
  | 19 => ⟨S16384x64, .f32⟩
  | 20 => ⟨S16384x64, .f32⟩
  | 21 => ⟨S16384x64, .f32⟩
  | 22 => ⟨S_, .f32⟩
  | 23 => ⟨S_, .f32⟩
  | 24 => ⟨S_, .f32⟩
  | 25 => ⟨S_, .f32⟩
  | 26 => ⟨S16384x64, .f32⟩
  | 27 => ⟨S16384x64, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S16384x64, .f32⟩
  | 36 => ⟨S16384x64, .f32⟩
  | 37 => ⟨S16384x64, .f32⟩
  | 38 => ⟨S_, .f32⟩
  | 39 => ⟨S16384, .f32⟩
  | 40 => ⟨S16384x1, .f32⟩
  | 41 => ⟨S_, .f32⟩
  | 42 => ⟨S16384x64, .f32⟩
  | 43 => ⟨S16384x64, .f32⟩
  | 44 => ⟨S64x256, .f32⟩
  | 45 => ⟨S16384x256, .f32⟩
  | 46 => ⟨S16384x256, .f32⟩
  | 47 => ⟨S16384x256, .f32⟩
  | 48 => ⟨S256x64, .f32⟩
  | 49 => ⟨S_, .f32⟩
  | 50 => ⟨S256, .f32⟩
  | 51 => ⟨S1x256, .f32⟩
  | 52 => ⟨S16384x256, .f32⟩
  | 53 => ⟨S16384x256, .f32⟩
  | 54 => ⟨S16384x256, .i32⟩
  | 55 => ⟨S_, .f32⟩
  | 56 => ⟨S_, .i32⟩
  | 57 => ⟨S16384, .f32⟩
  | 58 => ⟨S16384, .i32⟩
  | 59 => ⟨S_, .i32⟩
  | 60 => ⟨S16384, .i32⟩
  | 61 => ⟨S16384, .i1⟩
  | 62 => ⟨S_, .i32⟩
  | 63 => ⟨S16384, .i32⟩
  | 64 => ⟨S16384, .i32⟩
  | 65 => ⟨S16384, .i32⟩
  | 66 => ⟨S16384x1, .i32⟩
  | 67 => ⟨S16384x64, .f32⟩
  | 68 => ⟨S16384x64, .f32⟩
  | 69 => ⟨S16384x64, .f32⟩
  | 70 => ⟨S_, .f32⟩
  | 71 => ⟨S_, .f32⟩
  | 72 => ⟨S_, .f32⟩
  | 73 => ⟨S_, .f32⟩
  | 74 => ⟨S16384x64, .f32⟩
  | 75 => ⟨S16384x64, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S16384x64, .f32⟩
  | 84 => ⟨S16384x64, .f32⟩
  | 85 => ⟨S16384x64, .f32⟩
  | 86 => ⟨S_, .f32⟩
  | 87 => ⟨S16384, .f32⟩
  | 88 => ⟨S16384x1, .f32⟩
  | 89 => ⟨S_, .f32⟩
  | 90 => ⟨S16384x64, .f32⟩
  | 91 => ⟨S16384x64, .f32⟩
  | 92 => ⟨S64x256, .f32⟩
  | 93 => ⟨S16384x256, .f32⟩
  | 94 => ⟨S16384x256, .f32⟩
  | 95 => ⟨S16384x256, .f32⟩
  | 96 => ⟨S256x64, .f32⟩
  | 97 => ⟨S_, .f32⟩
  | 98 => ⟨S256, .f32⟩
  | 99 => ⟨S1x256, .f32⟩
  | 100 => ⟨S16384x256, .f32⟩
  | 101 => ⟨S16384x256, .f32⟩
  | 102 => ⟨S16384x256, .i32⟩
  | 103 => ⟨S_, .f32⟩
  | 104 => ⟨S_, .i32⟩
  | 105 => ⟨S16384, .f32⟩
  | 106 => ⟨S16384, .i32⟩
  | 107 => ⟨S_, .i32⟩
  | 108 => ⟨S16384, .i32⟩
  | 109 => ⟨S16384, .i1⟩
  | 110 => ⟨S_, .i32⟩
  | 111 => ⟨S16384, .i32⟩
  | 112 => ⟨S16384, .i32⟩
  | 113 => ⟨S16384, .i32⟩
  | 114 => ⟨S16384x1, .i32⟩
  | 115 => ⟨S16384x64, .f32⟩
  | 116 => ⟨S16384x64, .f32⟩
  | 117 => ⟨S16384x64, .f32⟩
  | 118 => ⟨S_, .f32⟩
  | 119 => ⟨S_, .f32⟩
  | 120 => ⟨S_, .f32⟩
  | 121 => ⟨S_, .f32⟩
  | 122 => ⟨S16384x64, .f32⟩
  | 123 => ⟨S16384x64, .f32⟩
  | 124 => ⟨S_, .f32⟩
  | 125 => ⟨S_, .f32⟩
  | 126 => ⟨S_, .f32⟩
  | 127 => ⟨S_, .f32⟩
  | _ => ⟨S16384x768, .f32⟩

abbrev hbmTy0_2 (i : Nat) : BufTy := match i % 128 with
  | 0 => ⟨S_, .f32⟩
  | 1 => ⟨S_, .f32⟩
  | 2 => ⟨S_, .f32⟩
  | 3 => ⟨S16384x64, .f32⟩
  | 4 => ⟨S16384x64, .f32⟩
  | 5 => ⟨S16384x64, .f32⟩
  | 6 => ⟨S_, .f32⟩
  | 7 => ⟨S16384, .f32⟩
  | 8 => ⟨S16384x1, .f32⟩
  | 9 => ⟨S_, .f32⟩
  | 10 => ⟨S16384x64, .f32⟩
  | 11 => ⟨S16384x64, .f32⟩
  | 12 => ⟨S64x256, .f32⟩
  | 13 => ⟨S16384x256, .f32⟩
  | 14 => ⟨S16384x256, .f32⟩
  | 15 => ⟨S16384x256, .f32⟩
  | 16 => ⟨S256x64, .f32⟩
  | 17 => ⟨S_, .f32⟩
  | 18 => ⟨S256, .f32⟩
  | 19 => ⟨S1x256, .f32⟩
  | 20 => ⟨S16384x256, .f32⟩
  | 21 => ⟨S16384x256, .f32⟩
  | 22 => ⟨S16384x256, .i32⟩
  | 23 => ⟨S_, .f32⟩
  | 24 => ⟨S_, .i32⟩
  | 25 => ⟨S16384, .f32⟩
  | 26 => ⟨S16384, .i32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S16384x64, .f32⟩
  | 36 => ⟨S16384x64, .f32⟩
  | 37 => ⟨S16384x64, .f32⟩
  | 38 => ⟨S_, .f32⟩
  | 39 => ⟨S_, .f32⟩
  | 40 => ⟨S_, .f32⟩
  | 41 => ⟨S_, .f32⟩
  | 42 => ⟨S16384x64, .f32⟩
  | 43 => ⟨S16384x64, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S16384x64, .f32⟩
  | 52 => ⟨S16384x64, .f32⟩
  | 53 => ⟨S16384x64, .f32⟩
  | 54 => ⟨S16384x64, .f32⟩
  | 55 => ⟨S1, .f32⟩
  | 56 => ⟨S1, .f32⟩
  | 57 => ⟨S1, .f32⟩
  | 58 => ⟨S1, .f32⟩
  | 59 => ⟨S4, .f32⟩
  | 60 => ⟨S_, .f32⟩
  | 61 => ⟨S_, .f32⟩
  | 62 => ⟨S_, .f32⟩
  | 63 => ⟨S_, .f32⟩
  | 64 => ⟨S16384x1, .i32⟩
  | 65 => ⟨S16384x1, .i32⟩
  | 66 => ⟨S16384x1, .i32⟩
  | 67 => ⟨S16384x1, .i32⟩
  | 68 => ⟨S16384x4, .i32⟩
  | 69 => ⟨S_, .f32⟩
  | 70 => ⟨S64, .f32⟩
  | 71 => ⟨S64, .f32⟩
  | 72 => ⟨S64, .f32⟩
  | 73 => ⟨S64, .f32⟩
  | 74 => ⟨S64, .i1⟩
  | 75 => ⟨S64, .f32⟩
  | 76 => ⟨S64, .f32⟩
  | 77 => ⟨S64, .f32⟩
  | 78 => ⟨S64, .f32⟩
  | 79 => ⟨S64, .f32⟩
  | 80 => ⟨S64, .f32⟩
  | 81 => ⟨S64, .f32⟩
  | 82 => ⟨S64, .f32⟩
  | 83 => ⟨S_, .f32⟩
  | 84 => ⟨S64, .f32⟩
  | 85 => ⟨S64, .f32⟩
  | 86 => ⟨S_, .f32⟩
  | 87 => ⟨S64, .f32⟩
  | 88 => ⟨S64, .f32⟩
  | 89 => ⟨S64, .f32⟩
  | 90 => ⟨S64, .f32⟩
  | 91 => ⟨S64, .i1⟩
  | 92 => ⟨S64, .f32⟩
  | 93 => ⟨S64, .f32⟩
  | 94 => ⟨S64, .f32⟩
  | 95 => ⟨S64, .f32⟩
  | 96 => ⟨S64, .f32⟩
  | 97 => ⟨S64, .f32⟩
  | 98 => ⟨S64, .f32⟩
  | 99 => ⟨S64, .f32⟩
  | 100 => ⟨S_, .f32⟩
  | 101 => ⟨S64, .f32⟩
  | 102 => ⟨S64, .f32⟩
  | 103 => ⟨S_, .f32⟩
  | 104 => ⟨S_, .f32⟩
  | 105 => ⟨S_, .f32⟩
  | 106 => ⟨S16384x64, .f32⟩
  | 107 => ⟨S16384x64, .f32⟩
  | 108 => ⟨S_, .f32⟩
  | 109 => ⟨S16384x64, .f32⟩
  | 110 => ⟨S16384x64, .f32⟩
  | 111 => ⟨S_, .f32⟩
  | 112 => ⟨S16384x64, .f32⟩
  | 113 => ⟨S16384x64, .f32⟩
  | 114 => ⟨S_, .f32⟩
  | 115 => ⟨S_, .f32⟩
  | 116 => ⟨S_, .f32⟩
  | 117 => ⟨S16384x64, .f32⟩
  | 118 => ⟨S16384x64, .f32⟩
  | 119 => ⟨S_, .f32⟩
  | 120 => ⟨S16384x64, .f32⟩
  | 121 => ⟨S16384x64, .f32⟩
  | 122 => ⟨S_, .f32⟩
  | 123 => ⟨S64, .f32⟩
  | 124 => ⟨S64, .f32⟩
  | 125 => ⟨S1x64, .f32⟩
  | 126 => ⟨S16384x64, .f32⟩
  | 127 => ⟨S16384x64, .f32⟩
  | _ => ⟨S16384x768, .f32⟩

abbrev hbmTy0_3 (i : Nat) : BufTy := match i % 128 with
  | 0 => ⟨S_, .f32⟩
  | 1 => ⟨S16384x64, .f32⟩
  | 2 => ⟨S16384x64, .f32⟩
  | 3 => ⟨S_, .f32⟩
  | 4 => ⟨S_, .f32⟩
  | 5 => ⟨S_, .f32⟩
  | 6 => ⟨S16384x64, .f32⟩
  | 7 => ⟨S16384x64, .f32⟩
  | 8 => ⟨S_, .f32⟩
  | 9 => ⟨S16384x64, .f32⟩
  | 10 => ⟨S16384x64, .f32⟩
  | 11 => ⟨S_, .f32⟩
  | 12 => ⟨S64, .f32⟩
  | 13 => ⟨S64, .f32⟩
  | 14 => ⟨S1x64, .f32⟩
  | 15 => ⟨S16384x64, .f32⟩
  | 16 => ⟨S16384x64, .f32⟩
  | 17 => ⟨S_, .f32⟩
  | 18 => ⟨S_, .f32⟩
  | 19 => ⟨S_, .f32⟩
  | 20 => ⟨S16384x64, .f32⟩
  | 21 => ⟨S16384x64, .f32⟩
  | 22 => ⟨S_, .f32⟩
  | 23 => ⟨S16384x64, .f32⟩
  | 24 => ⟨S16384x64, .f32⟩
  | 25 => ⟨S_, .f32⟩
  | 26 => ⟨S16384x64, .f32⟩
  | 27 => ⟨S16384x64, .f32⟩
  | 28 => ⟨S16384x64, .f32⟩
  | 29 => ⟨S16384x64, .f32⟩
  | 30 => ⟨S_, .f32⟩
  | 31 => ⟨S64, .f32⟩
  | 32 => ⟨S64, .f32⟩
  | 33 => ⟨S64, .f32⟩
  | 34 => ⟨S64, .f32⟩
  | 35 => ⟨S64, .i1⟩
  | 36 => ⟨S64, .f32⟩
  | 37 => ⟨S64, .f32⟩
  | 38 => ⟨S64, .f32⟩
  | 39 => ⟨S64, .f32⟩
  | 40 => ⟨S64, .f32⟩
  | 41 => ⟨S64, .f32⟩
  | 42 => ⟨S64, .f32⟩
  | 43 => ⟨S64, .f32⟩
  | 44 => ⟨S_, .f32⟩
  | 45 => ⟨S64, .f32⟩
  | 46 => ⟨S64, .f32⟩
  | 47 => ⟨S_, .f32⟩
  | 48 => ⟨S64, .f32⟩
  | 49 => ⟨S64, .f32⟩
  | 50 => ⟨S64, .f32⟩
  | 51 => ⟨S64, .f32⟩
  | 52 => ⟨S64, .i1⟩
  | 53 => ⟨S64, .f32⟩
  | 54 => ⟨S64, .f32⟩
  | 55 => ⟨S64, .f32⟩
  | 56 => ⟨S64, .f32⟩
  | 57 => ⟨S64, .f32⟩
  | 58 => ⟨S64, .f32⟩
  | 59 => ⟨S64, .f32⟩
  | 60 => ⟨S64, .f32⟩
  | 61 => ⟨S_, .f32⟩
  | 62 => ⟨S64, .f32⟩
  | 63 => ⟨S64, .f32⟩
  | 64 => ⟨S_, .f32⟩
  | 65 => ⟨S_, .f32⟩
  | 66 => ⟨S_, .f32⟩
  | 67 => ⟨S16384x64, .f32⟩
  | 68 => ⟨S16384x64, .f32⟩
  | 69 => ⟨S_, .f32⟩
  | 70 => ⟨S16384x64, .f32⟩
  | 71 => ⟨S16384x64, .f32⟩
  | 72 => ⟨S_, .f32⟩
  | 73 => ⟨S16384x64, .f32⟩
  | 74 => ⟨S16384x64, .f32⟩
  | 75 => ⟨S_, .f32⟩
  | 76 => ⟨S_, .f32⟩
  | 77 => ⟨S_, .f32⟩
  | 78 => ⟨S16384x64, .f32⟩
  | 79 => ⟨S16384x64, .f32⟩
  | 80 => ⟨S_, .f32⟩
  | 81 => ⟨S16384x64, .f32⟩
  | 82 => ⟨S16384x64, .f32⟩
  | 83 => ⟨S_, .f32⟩
  | 84 => ⟨S64, .f32⟩
  | 85 => ⟨S64, .f32⟩
  | 86 => ⟨S1x64, .f32⟩
  | 87 => ⟨S16384x64, .f32⟩
  | 88 => ⟨S16384x64, .f32⟩
  | 89 => ⟨S_, .f32⟩
  | 90 => ⟨S16384x64, .f32⟩
  | 91 => ⟨S16384x64, .f32⟩
  | 92 => ⟨S_, .f32⟩
  | 93 => ⟨S_, .f32⟩
  | 94 => ⟨S_, .f32⟩
  | 95 => ⟨S16384x64, .f32⟩
  | 96 => ⟨S16384x64, .f32⟩
  | 97 => ⟨S_, .f32⟩
  | 98 => ⟨S16384x64, .f32⟩
  | 99 => ⟨S16384x64, .f32⟩
  | 100 => ⟨S_, .f32⟩
  | 101 => ⟨S64, .f32⟩
  | 102 => ⟨S64, .f32⟩
  | 103 => ⟨S1x64, .f32⟩
  | 104 => ⟨S16384x64, .f32⟩
  | 105 => ⟨S16384x64, .f32⟩
  | 106 => ⟨S_, .f32⟩
  | 107 => ⟨S_, .f32⟩
  | 108 => ⟨S_, .f32⟩
  | 109 => ⟨S16384x64, .f32⟩
  | 110 => ⟨S16384x64, .f32⟩
  | 111 => ⟨S_, .f32⟩
  | 112 => ⟨S16384x64, .f32⟩
  | 113 => ⟨S16384x64, .f32⟩
  | 114 => ⟨S_, .f32⟩
  | 115 => ⟨S16384x64, .f32⟩
  | 116 => ⟨S16384x64, .f32⟩
  | 117 => ⟨S16384x64, .f32⟩
  | 118 => ⟨S16384x64, .f32⟩
  | 119 => ⟨S16384x64, .f32⟩
  | 120 => ⟨S16384x64, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16384x768, .f32⟩

abbrev hbmTy0_4 (i : Nat) : BufTy := match i % 128 with
  | 0 => ⟨S16384x512, .f32⟩
  | 1 => ⟨S1x512, .f32⟩
  | 2 => ⟨S16384x512, .f32⟩
  | 3 => ⟨S16384x512, .f32⟩
  | 4 => ⟨S_, .f32⟩
  | 5 => ⟨S16384x512, .f32⟩
  | 6 => ⟨S16384x512, .f32⟩
  | 7 => ⟨S16384x1024, .f32⟩
  | 8 => ⟨S1x1024, .f32⟩
  | 9 => ⟨S16384x1024, .f32⟩
  | 10 => ⟨S16384x1024, .f32⟩
  | 11 => ⟨S_, .f32⟩
  | 12 => ⟨S16384x1024, .f32⟩
  | 13 => ⟨S16384x1024, .f32⟩
  | 14 => ⟨S16384x768, .f32⟩
  | 15 => ⟨S1x768, .f32⟩
  | 16 => ⟨S16384x768, .f32⟩
  | 17 => ⟨S16384x768, .f32⟩
  | _ => ⟨S16384x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call1_cst : Ref sig .tc := ⟨.hbm, 30, rfl⟩
abbrev main_call1_v0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_call2_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_v14 : Ref sig .tc := ⟨.hbm, 50, rfl⟩
abbrev main_cst : Ref sig .tc := ⟨.hbm, 51, rfl⟩
abbrev main_v15 : Ref sig .tc := ⟨.hbm, 52, rfl⟩
abbrev main_v16 : Ref sig .tc := ⟨.hbm, 53, rfl⟩
abbrev main_call3_cst : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_v17 : Ref sig .tc := ⟨.hbm, 67, rfl⟩
abbrev main_cst_0 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_cst_1 : Ref sig .tc := ⟨.hbm, 73, rfl⟩
abbrev main_v22 : Ref sig .tc := ⟨.hbm, 74, rfl⟩
abbrev main_v23 : Ref sig .tc := ⟨.hbm, 75, rfl⟩
abbrev main_cst_2 : Ref sig .tc := ⟨.hbm, 76, rfl⟩
abbrev main_v24 : Ref sig .tc := ⟨.hbm, 77, rfl⟩
abbrev main_v25 : Ref sig .tc := ⟨.hbm, 78, rfl⟩
abbrev main_cst_3 : Ref sig .tc := ⟨.hbm, 79, rfl⟩
abbrev main_cst_4 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_cst_5 : Ref sig .tc := ⟨.hbm, 90, rfl⟩
abbrev main_v30 : Ref sig .tc := ⟨.hbm, 91, rfl⟩
abbrev main_v31 : Ref sig .tc := ⟨.hbm, 92, rfl⟩
abbrev main_cst_6 : Ref sig .tc := ⟨.hbm, 93, rfl⟩
abbrev main_cst_7 : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_call5_v3 : Ref sig .tc := ⟨.hbm, 98, rfl⟩
abbrev main_call5_v4 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_cst_8 : Ref sig .tc := ⟨.hbm, 104, rfl⟩
abbrev main_v36 : Ref sig .tc := ⟨.hbm, 105, rfl⟩
abbrev main_v37 : Ref sig .tc := ⟨.hbm, 106, rfl⟩
abbrev main_cst_9 : Ref sig .tc := ⟨.hbm, 107, rfl⟩
abbrev main_cst_10 : Ref sig .tc := ⟨.hbm, 108, rfl⟩
abbrev main_call6_v0 : Ref sig .tc := ⟨.hbm, 109, rfl⟩
abbrev main_call6_v1 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_v38 : Ref sig .tc := ⟨.hbm, 114, rfl⟩
abbrev main_cst_11 : Ref sig .tc := ⟨.hbm, 115, rfl⟩
abbrev main_v39 : Ref sig .tc := ⟨.hbm, 116, rfl⟩
abbrev main_v40 : Ref sig .tc := ⟨.hbm, 117, rfl⟩
abbrev main_cst_12 : Ref sig .tc := ⟨.hbm, 118, rfl⟩
abbrev main_v41 : Ref sig .tc := ⟨.hbm, 119, rfl⟩
abbrev main_v42 : Ref sig .tc := ⟨.hbm, 120, rfl⟩
abbrev main_cst_13 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_cst_14 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_call7_v0 : Ref sig .tc := ⟨.hbm, 134, rfl⟩
abbrev main_call7_cst : Ref sig .tc := ⟨.hbm, 135, rfl⟩
abbrev main_call7_c : Ref sig .tc := ⟨.hbm, 136, rfl⟩
abbrev main_call7_v1_0 : Ref sig .tc := ⟨.hbm, 137, rfl⟩
abbrev main_v54 : Ref sig .tc := ⟨.hbm, 138, rfl⟩
abbrev main_c : Ref sig .tc := ⟨.hbm, 139, rfl⟩
abbrev main_v55 : Ref sig .tc := ⟨.hbm, 140, rfl⟩
abbrev main_v56 : Ref sig .tc := ⟨.hbm, 141, rfl⟩
abbrev main_c_15 : Ref sig .tc := ⟨.hbm, 142, rfl⟩
abbrev main_v57 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_cst_16 : Ref sig .tc := ⟨.hbm, 150, rfl⟩
abbrev main_v64 : Ref sig .tc := ⟨.hbm, 151, rfl⟩
abbrev main_cst_17 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_cst_18 : Ref sig .tc := ⟨.hbm, 156, rfl⟩
abbrev main_v68 : Ref sig .tc := ⟨.hbm, 157, rfl⟩
abbrev main_cst_19 : Ref sig .tc := ⟨.hbm, 158, rfl⟩
abbrev main_v69 : Ref sig .tc := ⟨.hbm, 159, rfl⟩
abbrev main_cst_20 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_cst_21 : Ref sig .tc := ⟨.hbm, 166, rfl⟩
abbrev main_v75 : Ref sig .tc := ⟨.hbm, 167, rfl⟩
abbrev main_v76 : Ref sig .tc := ⟨.hbm, 168, rfl⟩
abbrev main_cst_22 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_cst_23 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_call8_v0 : Ref sig .tc := ⟨.hbm, 182, rfl⟩
abbrev main_call8_cst : Ref sig .tc := ⟨.hbm, 183, rfl⟩
abbrev main_call8_c : Ref sig .tc := ⟨.hbm, 184, rfl⟩
abbrev main_call8_v1_0 : Ref sig .tc := ⟨.hbm, 185, rfl⟩
abbrev main_v88 : Ref sig .tc := ⟨.hbm, 186, rfl⟩
abbrev main_c_24 : Ref sig .tc := ⟨.hbm, 187, rfl⟩
abbrev main_v89 : Ref sig .tc := ⟨.hbm, 188, rfl⟩
abbrev main_v90 : Ref sig .tc := ⟨.hbm, 189, rfl⟩
abbrev main_c_25 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩
abbrev main_v97 : Ref sig .tc := ⟨.hbm, 197, rfl⟩
abbrev main_cst_26 : Ref sig .tc := ⟨.hbm, 198, rfl⟩
abbrev main_v98 : Ref sig .tc := ⟨.hbm, 199, rfl⟩
abbrev main_cst_27 : Ref sig .tc := ⟨.hbm, 200, rfl⟩
abbrev main_v99 : Ref sig .tc := ⟨.hbm, 201, rfl⟩
abbrev main_v100 : Ref sig .tc := ⟨.hbm, 202, rfl⟩
abbrev main_v101 : Ref sig .tc := ⟨.hbm, 203, rfl⟩
abbrev main_cst_28 : Ref sig .tc := ⟨.hbm, 204, rfl⟩
abbrev main_v102 : Ref sig .tc := ⟨.hbm, 205, rfl⟩
abbrev main_cst_29 : Ref sig .tc := ⟨.hbm, 206, rfl⟩
abbrev main_v103 : Ref sig .tc := ⟨.hbm, 207, rfl⟩
abbrev main_cst_30 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_cst_31 : Ref sig .tc := ⟨.hbm, 214, rfl⟩
abbrev main_v109 : Ref sig .tc := ⟨.hbm, 215, rfl⟩
abbrev main_v110 : Ref sig .tc := ⟨.hbm, 216, rfl⟩
abbrev main_cst_32 : Ref sig .tc := ⟨.hbm, 217, rfl⟩
abbrev main_v111 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_cst_33 : Ref sig .tc := ⟨.hbm, 225, rfl⟩
abbrev main_v118 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_call9_v0 : Ref sig .tc := ⟨.hbm, 230, rfl⟩
abbrev main_call9_cst : Ref sig .tc := ⟨.hbm, 231, rfl⟩
abbrev main_call9_c : Ref sig .tc := ⟨.hbm, 232, rfl⟩
abbrev main_call9_v1_0 : Ref sig .tc := ⟨.hbm, 233, rfl⟩
abbrev main_v122 : Ref sig .tc := ⟨.hbm, 234, rfl⟩
abbrev main_c_34 : Ref sig .tc := ⟨.hbm, 235, rfl⟩
abbrev main_v123 : Ref sig .tc := ⟨.hbm, 236, rfl⟩
abbrev main_v124 : Ref sig .tc := ⟨.hbm, 237, rfl⟩
abbrev main_c_35 : Ref sig .tc := ⟨.hbm, 238, rfl⟩
abbrev main_v125 : Ref sig .tc := ⟨.hbm, 239, rfl⟩
abbrev main_v126 : Ref sig .tc := ⟨.hbm, 240, rfl⟩
abbrev main_v127 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_cst_36 : Ref sig .tc := ⟨.hbm, 246, rfl⟩
abbrev main_v132 : Ref sig .tc := ⟨.hbm, 247, rfl⟩
abbrev main_cst_37 : Ref sig .tc := ⟨.hbm, 248, rfl⟩
abbrev main_v133 : Ref sig .tc := ⟨.hbm, 249, rfl⟩
abbrev main_v134 : Ref sig .tc := ⟨.hbm, 250, rfl⟩
abbrev main_v135 : Ref sig .tc := ⟨.hbm, 251, rfl⟩
abbrev main_cst_38 : Ref sig .tc := ⟨.hbm, 252, rfl⟩
abbrev main_v136 : Ref sig .tc := ⟨.hbm, 253, rfl⟩
abbrev main_cst_39 : Ref sig .tc := ⟨.hbm, 254, rfl⟩
abbrev main_v137 : Ref sig .tc := ⟨.hbm, 255, rfl⟩
abbrev main_cst_40 : Ref sig .tc := ⟨.hbm, 256, rfl⟩
abbrev main_v138 : Ref sig .tc := ⟨.hbm, 257, rfl⟩
abbrev main_v139 : Ref sig .tc := ⟨.hbm, 258, rfl⟩
abbrev main_v140 : Ref sig .tc := ⟨.hbm, 259, rfl⟩
abbrev main_v141 : Ref sig .tc := ⟨.hbm, 260, rfl⟩
abbrev main_v142 : Ref sig .tc := ⟨.hbm, 261, rfl⟩
abbrev main_cst_41 : Ref sig .tc := ⟨.hbm, 262, rfl⟩
abbrev main_v143 : Ref sig .tc := ⟨.hbm, 263, rfl⟩
abbrev main_v144 : Ref sig .tc := ⟨.hbm, 264, rfl⟩
abbrev main_cst_42 : Ref sig .tc := ⟨.hbm, 265, rfl⟩
abbrev main_v145 : Ref sig .tc := ⟨.hbm, 266, rfl⟩
abbrev main_v146 : Ref sig .tc := ⟨.hbm, 267, rfl⟩
abbrev main_v147 : Ref sig .tc := ⟨.hbm, 268, rfl⟩
abbrev main_v148 : Ref sig .tc := ⟨.hbm, 269, rfl⟩
abbrev main_v149 : Ref sig .tc := ⟨.hbm, 270, rfl⟩
abbrev main_v150 : Ref sig .tc := ⟨.hbm, 271, rfl⟩
abbrev main_v151 : Ref sig .tc := ⟨.hbm, 272, rfl⟩
abbrev main_cst_43 : Ref sig .tc := ⟨.hbm, 273, rfl⟩
abbrev main_v152 : Ref sig .tc := ⟨.hbm, 274, rfl⟩
abbrev main_v153 : Ref sig .tc := ⟨.hbm, 275, rfl⟩
abbrev main_v154 : Ref sig .tc := ⟨.hbm, 276, rfl⟩
abbrev main_v155 : Ref sig .tc := ⟨.hbm, 277, rfl⟩
abbrev main_call10_v0 : Ref sig .tc := ⟨.hbm, 278, rfl⟩
abbrev main_call10_cst : Ref sig .tc := ⟨.hbm, 279, rfl⟩
abbrev main_call10_c : Ref sig .tc := ⟨.hbm, 280, rfl⟩
abbrev main_call10_v1_0 : Ref sig .tc := ⟨.hbm, 281, rfl⟩
abbrev main_v156 : Ref sig .tc := ⟨.hbm, 282, rfl⟩
abbrev main_c_44 : Ref sig .tc := ⟨.hbm, 283, rfl⟩
abbrev main_v157 : Ref sig .tc := ⟨.hbm, 284, rfl⟩
abbrev main_v158 : Ref sig .tc := ⟨.hbm, 285, rfl⟩
abbrev main_c_45 : Ref sig .tc := ⟨.hbm, 286, rfl⟩
abbrev main_v159 : Ref sig .tc := ⟨.hbm, 287, rfl⟩
abbrev main_v160 : Ref sig .tc := ⟨.hbm, 288, rfl⟩
abbrev main_v161 : Ref sig .tc := ⟨.hbm, 289, rfl⟩
abbrev main_v162 : Ref sig .tc := ⟨.hbm, 290, rfl⟩
abbrev main_v163 : Ref sig .tc := ⟨.hbm, 291, rfl⟩
abbrev main_v164 : Ref sig .tc := ⟨.hbm, 292, rfl⟩
abbrev main_v165 : Ref sig .tc := ⟨.hbm, 293, rfl⟩
abbrev main_cst_46 : Ref sig .tc := ⟨.hbm, 294, rfl⟩
abbrev main_v166 : Ref sig .tc := ⟨.hbm, 295, rfl⟩
abbrev main_cst_47 : Ref sig .tc := ⟨.hbm, 296, rfl⟩
abbrev main_v167 : Ref sig .tc := ⟨.hbm, 297, rfl⟩
abbrev main_v168 : Ref sig .tc := ⟨.hbm, 298, rfl⟩
abbrev main_v169 : Ref sig .tc := ⟨.hbm, 299, rfl⟩
abbrev main_cst_48 : Ref sig .tc := ⟨.hbm, 300, rfl⟩
abbrev main_v170 : Ref sig .tc := ⟨.hbm, 301, rfl⟩
abbrev main_cst_49 : Ref sig .tc := ⟨.hbm, 302, rfl⟩
abbrev main_v171 : Ref sig .tc := ⟨.hbm, 303, rfl⟩
abbrev main_cst_50 : Ref sig .tc := ⟨.hbm, 304, rfl⟩
abbrev main_v172 : Ref sig .tc := ⟨.hbm, 305, rfl⟩
abbrev main_v173 : Ref sig .tc := ⟨.hbm, 306, rfl⟩
abbrev main_v174 : Ref sig .tc := ⟨.hbm, 307, rfl⟩
abbrev main_v175 : Ref sig .tc := ⟨.hbm, 308, rfl⟩
abbrev main_v176 : Ref sig .tc := ⟨.hbm, 309, rfl⟩
abbrev main_v177 : Ref sig .tc := ⟨.hbm, 310, rfl⟩
abbrev main_v178 : Ref sig .tc := ⟨.hbm, 311, rfl⟩
abbrev main_v179 : Ref sig .tc := ⟨.hbm, 312, rfl⟩
abbrev main_v180 : Ref sig .tc := ⟨.hbm, 313, rfl⟩
abbrev main_v181 : Ref sig .tc := ⟨.hbm, 314, rfl⟩
abbrev main_v182 : Ref sig .tc := ⟨.hbm, 315, rfl⟩
abbrev main_cst_51 : Ref sig .tc := ⟨.hbm, 316, rfl⟩
abbrev main_v183 : Ref sig .tc := ⟨.hbm, 317, rfl⟩
abbrev main_cst_52 : Ref sig .tc := ⟨.hbm, 318, rfl⟩
abbrev main_v184 : Ref sig .tc := ⟨.hbm, 319, rfl⟩
abbrev main_v185 : Ref sig .tc := ⟨.hbm, 320, rfl⟩
abbrev main_v186 : Ref sig .tc := ⟨.hbm, 321, rfl⟩
abbrev main_v187 : Ref sig .tc := ⟨.hbm, 322, rfl⟩
abbrev main_v188 : Ref sig .tc := ⟨.hbm, 323, rfl⟩
abbrev main_v189 : Ref sig .tc := ⟨.hbm, 324, rfl⟩
abbrev main_call11_cst : Ref sig .tc := ⟨.hbm, 325, rfl⟩
abbrev main_call11_v0 : Ref sig .tc := ⟨.hbm, 326, rfl⟩
abbrev main_call11_v1 : Ref sig .tc := ⟨.hbm, 327, rfl⟩
abbrev main_call11_v2 : Ref sig .tc := ⟨.hbm, 328, rfl⟩
abbrev main_call11_v3 : Ref sig .tc := ⟨.hbm, 329, rfl⟩
abbrev main_call11_v4 : Ref sig .tc := ⟨.hbm, 330, rfl⟩
abbrev main_call11_v5 : Ref sig .tc := ⟨.hbm, 331, rfl⟩
abbrev main_call11_v6 : Ref sig .tc := ⟨.hbm, 332, rfl⟩
abbrev main_call11_v7 : Ref sig .tc := ⟨.hbm, 333, rfl⟩
abbrev main_call11_v8 : Ref sig .tc := ⟨.hbm, 334, rfl⟩
abbrev main_call11_v9 : Ref sig .tc := ⟨.hbm, 335, rfl⟩
abbrev main_call11_v10 : Ref sig .tc := ⟨.hbm, 336, rfl⟩
abbrev main_call11_v11 : Ref sig .tc := ⟨.hbm, 337, rfl⟩
abbrev main_v190 : Ref sig .tc := ⟨.hbm, 338, rfl⟩
abbrev main_cst_53 : Ref sig .tc := ⟨.hbm, 339, rfl⟩
abbrev main_v191 : Ref sig .tc := ⟨.hbm, 340, rfl⟩
abbrev main_v192 : Ref sig .tc := ⟨.hbm, 341, rfl⟩
abbrev main_call12_cst : Ref sig .tc := ⟨.hbm, 342, rfl⟩
abbrev main_call12_v0 : Ref sig .tc := ⟨.hbm, 343, rfl⟩
abbrev main_call12_v1 : Ref sig .tc := ⟨.hbm, 344, rfl⟩
abbrev main_call12_v2 : Ref sig .tc := ⟨.hbm, 345, rfl⟩
abbrev main_call12_v3 : Ref sig .tc := ⟨.hbm, 346, rfl⟩
abbrev main_call12_v4 : Ref sig .tc := ⟨.hbm, 347, rfl⟩
abbrev main_call12_v5 : Ref sig .tc := ⟨.hbm, 348, rfl⟩
abbrev main_call12_v6 : Ref sig .tc := ⟨.hbm, 349, rfl⟩
abbrev main_call12_v7 : Ref sig .tc := ⟨.hbm, 350, rfl⟩
abbrev main_call12_v8 : Ref sig .tc := ⟨.hbm, 351, rfl⟩
abbrev main_call12_v9 : Ref sig .tc := ⟨.hbm, 352, rfl⟩
abbrev main_call12_v10 : Ref sig .tc := ⟨.hbm, 353, rfl⟩
abbrev main_call12_v11 : Ref sig .tc := ⟨.hbm, 354, rfl⟩
abbrev main_v193 : Ref sig .tc := ⟨.hbm, 355, rfl⟩
abbrev main_cst_54 : Ref sig .tc := ⟨.hbm, 356, rfl⟩
abbrev main_v194 : Ref sig .tc := ⟨.hbm, 357, rfl⟩
abbrev main_v195 : Ref sig .tc := ⟨.hbm, 358, rfl⟩
abbrev main_cst_55 : Ref sig .tc := ⟨.hbm, 359, rfl⟩
abbrev main_cst_56 : Ref sig .tc := ⟨.hbm, 360, rfl⟩
abbrev main_call13_v0 : Ref sig .tc := ⟨.hbm, 361, rfl⟩
abbrev main_call13_v1 : Ref sig .tc := ⟨.hbm, 362, rfl⟩
abbrev main_call13_v2 : Ref sig .tc := ⟨.hbm, 363, rfl⟩
abbrev main_call13_v3 : Ref sig .tc := ⟨.hbm, 364, rfl⟩
abbrev main_call13_v4 : Ref sig .tc := ⟨.hbm, 365, rfl⟩
abbrev main_v196 : Ref sig .tc := ⟨.hbm, 366, rfl⟩
abbrev main_cst_57 : Ref sig .tc := ⟨.hbm, 367, rfl⟩
abbrev main_v197 : Ref sig .tc := ⟨.hbm, 368, rfl⟩
abbrev main_v198 : Ref sig .tc := ⟨.hbm, 369, rfl⟩
abbrev main_cst_58 : Ref sig .tc := ⟨.hbm, 370, rfl⟩
abbrev main_cst_59 : Ref sig .tc := ⟨.hbm, 371, rfl⟩
abbrev main_call14_v0 : Ref sig .tc := ⟨.hbm, 372, rfl⟩
abbrev main_call14_v1 : Ref sig .tc := ⟨.hbm, 373, rfl⟩
abbrev main_call14_v2 : Ref sig .tc := ⟨.hbm, 374, rfl⟩
abbrev main_call14_v3 : Ref sig .tc := ⟨.hbm, 375, rfl⟩
abbrev main_call14_v4 : Ref sig .tc := ⟨.hbm, 376, rfl⟩
abbrev main_v199 : Ref sig .tc := ⟨.hbm, 377, rfl⟩
abbrev main_cst_60 : Ref sig .tc := ⟨.hbm, 378, rfl⟩
abbrev main_v200 : Ref sig .tc := ⟨.hbm, 379, rfl⟩
abbrev main_v201 : Ref sig .tc := ⟨.hbm, 380, rfl⟩
abbrev main_v202 : Ref sig .tc := ⟨.hbm, 381, rfl⟩
abbrev main_v203 : Ref sig .tc := ⟨.hbm, 382, rfl⟩
abbrev main_v204 : Ref sig .tc := ⟨.hbm, 383, rfl⟩
abbrev main_cst_61 : Ref sig .tc := ⟨.hbm, 384, rfl⟩
abbrev main_v205 : Ref sig .tc := ⟨.hbm, 385, rfl⟩
abbrev main_v206 : Ref sig .tc := ⟨.hbm, 386, rfl⟩
abbrev main_cst_62 : Ref sig .tc := ⟨.hbm, 387, rfl⟩
abbrev main_cst_63 : Ref sig .tc := ⟨.hbm, 388, rfl⟩
abbrev main_call15_v0 : Ref sig .tc := ⟨.hbm, 389, rfl⟩
abbrev main_call15_v1 : Ref sig .tc := ⟨.hbm, 390, rfl⟩
abbrev main_call15_v2 : Ref sig .tc := ⟨.hbm, 391, rfl⟩
abbrev main_call15_v3 : Ref sig .tc := ⟨.hbm, 392, rfl⟩
abbrev main_call15_v4 : Ref sig .tc := ⟨.hbm, 393, rfl⟩
abbrev main_v207 : Ref sig .tc := ⟨.hbm, 394, rfl⟩
abbrev main_cst_64 : Ref sig .tc := ⟨.hbm, 395, rfl⟩
abbrev main_v208 : Ref sig .tc := ⟨.hbm, 396, rfl⟩
abbrev main_v209 : Ref sig .tc := ⟨.hbm, 397, rfl⟩
abbrev main_v210 : Ref sig .tc := ⟨.hbm, 398, rfl⟩
abbrev main_v211 : Ref sig .tc := ⟨.hbm, 399, rfl⟩
abbrev main_v212 : Ref sig .tc := ⟨.hbm, 400, rfl⟩
abbrev main_cst_65 : Ref sig .tc := ⟨.hbm, 401, rfl⟩
abbrev main_cst_66 : Ref sig .tc := ⟨.hbm, 402, rfl⟩
abbrev main_call16_v0 : Ref sig .tc := ⟨.hbm, 403, rfl⟩
abbrev main_call16_v1 : Ref sig .tc := ⟨.hbm, 404, rfl⟩
abbrev main_call16_v2 : Ref sig .tc := ⟨.hbm, 405, rfl⟩
abbrev main_call16_v3 : Ref sig .tc := ⟨.hbm, 406, rfl⟩
abbrev main_call16_v4 : Ref sig .tc := ⟨.hbm, 407, rfl⟩
abbrev main_v213 : Ref sig .tc := ⟨.hbm, 408, rfl⟩
abbrev main_cst_67 : Ref sig .tc := ⟨.hbm, 409, rfl⟩
abbrev main_v214 : Ref sig .tc := ⟨.hbm, 410, rfl⟩
abbrev main_v215 : Ref sig .tc := ⟨.hbm, 411, rfl⟩
abbrev main_v216 : Ref sig .tc := ⟨.hbm, 412, rfl⟩
abbrev main_v217 : Ref sig .tc := ⟨.hbm, 413, rfl⟩
abbrev main_call17_cst : Ref sig .tc := ⟨.hbm, 414, rfl⟩
abbrev main_call17_v0 : Ref sig .tc := ⟨.hbm, 415, rfl⟩
abbrev main_call17_v1 : Ref sig .tc := ⟨.hbm, 416, rfl⟩
abbrev main_call17_v2 : Ref sig .tc := ⟨.hbm, 417, rfl⟩
abbrev main_call17_v3 : Ref sig .tc := ⟨.hbm, 418, rfl⟩
abbrev main_call17_v4 : Ref sig .tc := ⟨.hbm, 419, rfl⟩
abbrev main_call17_v5 : Ref sig .tc := ⟨.hbm, 420, rfl⟩
abbrev main_call17_v6 : Ref sig .tc := ⟨.hbm, 421, rfl⟩
abbrev main_call17_v7 : Ref sig .tc := ⟨.hbm, 422, rfl⟩
abbrev main_call17_v8 : Ref sig .tc := ⟨.hbm, 423, rfl⟩
abbrev main_call17_v9 : Ref sig .tc := ⟨.hbm, 424, rfl⟩
abbrev main_call17_v10 : Ref sig .tc := ⟨.hbm, 425, rfl⟩
abbrev main_call17_v11 : Ref sig .tc := ⟨.hbm, 426, rfl⟩
abbrev main_v218 : Ref sig .tc := ⟨.hbm, 427, rfl⟩
abbrev main_cst_68 : Ref sig .tc := ⟨.hbm, 428, rfl⟩
abbrev main_v219 : Ref sig .tc := ⟨.hbm, 429, rfl⟩
abbrev main_v220 : Ref sig .tc := ⟨.hbm, 430, rfl⟩
abbrev main_call18_cst : Ref sig .tc := ⟨.hbm, 431, rfl⟩
abbrev main_call18_v0 : Ref sig .tc := ⟨.hbm, 432, rfl⟩
abbrev main_call18_v1 : Ref sig .tc := ⟨.hbm, 433, rfl⟩
abbrev main_call18_v2 : Ref sig .tc := ⟨.hbm, 434, rfl⟩
abbrev main_call18_v3 : Ref sig .tc := ⟨.hbm, 435, rfl⟩
abbrev main_call18_v4 : Ref sig .tc := ⟨.hbm, 436, rfl⟩
abbrev main_call18_v5 : Ref sig .tc := ⟨.hbm, 437, rfl⟩
abbrev main_call18_v6 : Ref sig .tc := ⟨.hbm, 438, rfl⟩
abbrev main_call18_v7 : Ref sig .tc := ⟨.hbm, 439, rfl⟩
abbrev main_call18_v8 : Ref sig .tc := ⟨.hbm, 440, rfl⟩
abbrev main_call18_v9 : Ref sig .tc := ⟨.hbm, 441, rfl⟩
abbrev main_call18_v10 : Ref sig .tc := ⟨.hbm, 442, rfl⟩
abbrev main_call18_v11 : Ref sig .tc := ⟨.hbm, 443, rfl⟩
abbrev main_v221 : Ref sig .tc := ⟨.hbm, 444, rfl⟩
abbrev main_cst_69 : Ref sig .tc := ⟨.hbm, 445, rfl⟩
abbrev main_v222 : Ref sig .tc := ⟨.hbm, 446, rfl⟩
abbrev main_v223 : Ref sig .tc := ⟨.hbm, 447, rfl⟩
abbrev main_cst_70 : Ref sig .tc := ⟨.hbm, 448, rfl⟩
abbrev main_cst_71 : Ref sig .tc := ⟨.hbm, 449, rfl⟩
abbrev main_call19_v0 : Ref sig .tc := ⟨.hbm, 450, rfl⟩
abbrev main_call19_v1 : Ref sig .tc := ⟨.hbm, 451, rfl⟩
abbrev main_call19_v2 : Ref sig .tc := ⟨.hbm, 452, rfl⟩
abbrev main_call19_v3 : Ref sig .tc := ⟨.hbm, 453, rfl⟩
abbrev main_call19_v4 : Ref sig .tc := ⟨.hbm, 454, rfl⟩
abbrev main_v224 : Ref sig .tc := ⟨.hbm, 455, rfl⟩
abbrev main_cst_72 : Ref sig .tc := ⟨.hbm, 456, rfl⟩
abbrev main_v225 : Ref sig .tc := ⟨.hbm, 457, rfl⟩
abbrev main_v226 : Ref sig .tc := ⟨.hbm, 458, rfl⟩
abbrev main_cst_73 : Ref sig .tc := ⟨.hbm, 459, rfl⟩
abbrev main_cst_74 : Ref sig .tc := ⟨.hbm, 460, rfl⟩
abbrev main_call20_v0 : Ref sig .tc := ⟨.hbm, 461, rfl⟩
abbrev main_call20_v1 : Ref sig .tc := ⟨.hbm, 462, rfl⟩
abbrev main_call20_v2 : Ref sig .tc := ⟨.hbm, 463, rfl⟩
abbrev main_call20_v3 : Ref sig .tc := ⟨.hbm, 464, rfl⟩
abbrev main_call20_v4 : Ref sig .tc := ⟨.hbm, 465, rfl⟩
abbrev main_v227 : Ref sig .tc := ⟨.hbm, 466, rfl⟩
abbrev main_cst_75 : Ref sig .tc := ⟨.hbm, 467, rfl⟩
abbrev main_v228 : Ref sig .tc := ⟨.hbm, 468, rfl⟩
abbrev main_v229 : Ref sig .tc := ⟨.hbm, 469, rfl⟩
abbrev main_v230 : Ref sig .tc := ⟨.hbm, 470, rfl⟩
abbrev main_v231 : Ref sig .tc := ⟨.hbm, 471, rfl⟩
abbrev main_v232 : Ref sig .tc := ⟨.hbm, 472, rfl⟩
abbrev main_cst_76 : Ref sig .tc := ⟨.hbm, 473, rfl⟩
abbrev main_v233 : Ref sig .tc := ⟨.hbm, 474, rfl⟩
abbrev main_v234 : Ref sig .tc := ⟨.hbm, 475, rfl⟩
abbrev main_cst_77 : Ref sig .tc := ⟨.hbm, 476, rfl⟩
abbrev main_cst_78 : Ref sig .tc := ⟨.hbm, 477, rfl⟩
abbrev main_call21_v0 : Ref sig .tc := ⟨.hbm, 478, rfl⟩
abbrev main_call21_v1 : Ref sig .tc := ⟨.hbm, 479, rfl⟩
abbrev main_call21_v2 : Ref sig .tc := ⟨.hbm, 480, rfl⟩
abbrev main_call21_v3 : Ref sig .tc := ⟨.hbm, 481, rfl⟩
abbrev main_call21_v4 : Ref sig .tc := ⟨.hbm, 482, rfl⟩
abbrev main_v235 : Ref sig .tc := ⟨.hbm, 483, rfl⟩
abbrev main_cst_79 : Ref sig .tc := ⟨.hbm, 484, rfl⟩
abbrev main_v236 : Ref sig .tc := ⟨.hbm, 485, rfl⟩
abbrev main_v237 : Ref sig .tc := ⟨.hbm, 486, rfl⟩
abbrev main_v238 : Ref sig .tc := ⟨.hbm, 487, rfl⟩
abbrev main_v239 : Ref sig .tc := ⟨.hbm, 488, rfl⟩
abbrev main_v240 : Ref sig .tc := ⟨.hbm, 489, rfl⟩
abbrev main_cst_80 : Ref sig .tc := ⟨.hbm, 490, rfl⟩
abbrev main_cst_81 : Ref sig .tc := ⟨.hbm, 491, rfl⟩
abbrev main_call22_v0 : Ref sig .tc := ⟨.hbm, 492, rfl⟩
abbrev main_call22_v1 : Ref sig .tc := ⟨.hbm, 493, rfl⟩
abbrev main_call22_v2 : Ref sig .tc := ⟨.hbm, 494, rfl⟩
abbrev main_call22_v3 : Ref sig .tc := ⟨.hbm, 495, rfl⟩
abbrev main_call22_v4 : Ref sig .tc := ⟨.hbm, 496, rfl⟩
abbrev main_v241 : Ref sig .tc := ⟨.hbm, 497, rfl⟩
abbrev main_cst_82 : Ref sig .tc := ⟨.hbm, 498, rfl⟩
abbrev main_v242 : Ref sig .tc := ⟨.hbm, 499, rfl⟩
abbrev main_v243 : Ref sig .tc := ⟨.hbm, 500, rfl⟩
abbrev main_v244 : Ref sig .tc := ⟨.hbm, 501, rfl⟩
abbrev main_v245 : Ref sig .tc := ⟨.hbm, 502, rfl⟩
abbrev main_v246 : Ref sig .tc := ⟨.hbm, 503, rfl⟩
abbrev main_v247 : Ref sig .tc := ⟨.hbm, 504, rfl⟩
abbrev main_cst_83 : Ref sig .tc := ⟨.hbm, 505, rfl⟩
abbrev main_v248 : Ref sig .tc := ⟨.hbm, 506, rfl⟩
abbrev main_cst_84 : Ref sig .tc := ⟨.hbm, 507, rfl⟩
abbrev main_v249 : Ref sig .tc := ⟨.hbm, 508, rfl⟩
abbrev main_cst_85 : Ref sig .tc := ⟨.hbm, 509, rfl⟩
abbrev main_v250 : Ref sig .tc := ⟨.hbm, 510, rfl⟩
abbrev main_v251 : Ref sig .tc := ⟨.hbm, 511, rfl⟩
abbrev main_v252 : Ref sig .tc := ⟨.hbm, 512, rfl⟩
abbrev main_v253 : Ref sig .tc := ⟨.hbm, 513, rfl⟩
abbrev main_v254 : Ref sig .tc := ⟨.hbm, 514, rfl⟩
abbrev main_v255 : Ref sig .tc := ⟨.hbm, 515, rfl⟩
abbrev main_call23_cst : Ref sig .tc := ⟨.hbm, 516, rfl⟩
abbrev main_call23_v0 : Ref sig .tc := ⟨.hbm, 517, rfl⟩
abbrev main_v256 : Ref sig .tc := ⟨.hbm, 518, rfl⟩
abbrev main_v257 : Ref sig .tc := ⟨.hbm, 519, rfl⟩
abbrev main_v258 : Ref sig .tc := ⟨.hbm, 520, rfl⟩
abbrev main_v259 : Ref sig .tc := ⟨.hbm, 521, rfl⟩
abbrev main_v260 : Ref sig .tc := ⟨.hbm, 522, rfl⟩
abbrev main_call24_cst : Ref sig .tc := ⟨.hbm, 523, rfl⟩
abbrev main_call24_v0 : Ref sig .tc := ⟨.hbm, 524, rfl⟩
abbrev main_v261 : Ref sig .tc := ⟨.hbm, 525, rfl⟩
abbrev main_v262 : Ref sig .tc := ⟨.hbm, 526, rfl⟩
abbrev main_v263 : Ref sig .tc := ⟨.hbm, 527, rfl⟩
abbrev main_v264 : Ref sig .tc := ⟨.hbm, 528, rfl⟩
abbrev main_v265 : Ref sig .tc := ⟨.hbm, 529, rfl⟩

abbrev nD : Nat := 1
abbrev τ : Topo := Topo.v7x

variable {F : FTy → Type} [FloatOps F]
-- ==== Proof.Consts.lean ====
/-
  The f32 constants of the two programs as extended reals.
-/
module

public import Idealize.ShloMosaic.Lib.Pointwise
public import Idealize.ShloMosaic.Lib.IdealHost

@[expose] public section

noncomputable section

open Idealize.ShloMosaic

namespace Cert.Vq

/-- The pattern of `1e-6`, the lower clip bound. -/
abbrev eps : EReal := Ideal.ofBits .f32 0x358637BD#32

/-- The pattern of `1 - 1e-6`, the upper clip bound. -/
abbrev top1 : EReal := Ideal.ofBits .f32 0x3F7FFFEF#32

/-- The lower clip bound is a positive real below one half. -/
theorem eps_real : ∃ e : ℝ, 0 < e ∧ e < 1 / 2 ∧ eps = (e : EReal) := by
  refine ⟨_, ?_, ?_, by simp [eps, Ideal.ofBits, Ideal.ieee]; rfl⟩ <;> norm_num

/-- The upper clip bound is a real between one half and one. -/
theorem top1_real : ∃ e : ℝ, 1 / 2 < e ∧ e < 1 ∧ top1 = (e : EReal) := by
  refine ⟨_, ?_, ?_, by simp [top1, Ideal.ofBits, Ideal.ieee]; rfl⟩ <;> norm_num

/-- The pattern `0x7F800000` is plus infinity. -/
theorem ofBits_inf : Ideal.ofBits .f32 0x7F800000#32 = ⊤ := by simp [Ideal.ofBits, Ideal.ieee]

/-- The pattern `0x40000000` is two. -/
theorem ofBits_two : Ideal.ofBits .f32 0x40000000#32 = ((2 : ℝ) : EReal) := by
  simp [Ideal.ofBits, Ideal.ieee]; rw [← EReal.coe_mul]; norm_num

/-- The pattern `0x41A00000` is twenty. -/
theorem ofBits_twenty : Ideal.ofBits .f32 0x41A00000#32 = ((20 : ℝ) : EReal) := by
  simp [Ideal.ofBits, Ideal.ieee]; rw [← EReal.coe_mul]; norm_num

/-- The pattern `0x49800000` is `2 ^ 20`. -/
theorem ofBits_count : Ideal.ofBits .f32 0x49800000#32 = ((1048576 : ℝ) : EReal) := by
  simp [Ideal.ofBits, Ideal.ieee]; rw [← EReal.coe_mul]; norm_num

/-- The pattern `0x3E800000` is one quarter. -/
theorem ofBits_quarter : Ideal.ofBits .f32 0x3E800000#32 = ((1 / 4 : ℝ) : EReal) := by
  simp [Ideal.ofBits, Ideal.ieee]; rw [← EReal.coe_mul]; norm_num

/-- The pattern `0x40800000` is four. -/
theorem ofBits_four : Ideal.ofBits .f32 0x40800000#32 = ((4 : ℝ) : EReal) := by
  simp [Ideal.ofBits, Ideal.ieee]; rw [← EReal.coe_mul]; norm_num

/-- The pattern `0x34A00000` is `(5 / 4) / 2 ^ 22`. -/
theorem ofBits_rq : Ideal.ofBits .f32 0x34A00000#32 = ((5 / 16777216 : ℝ) : EReal) := by
  simp [Ideal.ofBits, Ideal.ieee]; rw [← EReal.coe_mul]; norm_num

/-- The pattern `0x35800000` is `1 / 2 ^ 20`. -/
theorem ofBits_nvq : Ideal.ofBits .f32 0x35800000#32 = ((1 / 1048576 : ℝ) : EReal) := by
  simp [Ideal.ofBits, Ideal.ieee]; rw [← EReal.coe_mul]; norm_num

end Cert.Vq

end
-- ==== Proof.Code.lean ====
/-
  The index of the nearest code: the least position of the least entry of 256 extended reals, and the two ways the
  programs compute it (a minimum over positions that hold the least entry; a running lexicographic minimum).
-/
module

public import proofs.«01_k».proof.Proof.Consts

@[expose] public section

noncomputable section

open Idealize.ShloMosaic

namespace Cert.Vq

/-- `k` is the first position of the least entry of `d`. -/
def IsCode (d : Fin 256 → EReal) (k : Fin 256) : Prop := (∀ j, d k ≤ d j) ∧ ∀ j, d j = d k → k ≤ j

/-- Such a position exists. -/
theorem exists_isCode (d : Fin 256 → EReal) : ∃ k, IsCode d k := by
  obtain ⟨k₀, -, h₀⟩ := Finset.exists_min_image Finset.univ d ⟨0, Finset.mem_univ _⟩
  obtain ⟨k, hk, hmin⟩ := Finset.exists_min_image (Finset.univ.filter fun j => d j = d k₀) id
    ⟨k₀, Finset.mem_filter.mpr ⟨Finset.mem_univ _, rfl⟩⟩
  have hk' := (Finset.mem_filter.mp hk).2
  exact ⟨k, fun j => hk' ▸ h₀ j (Finset.mem_univ _),
    fun j hj => hmin j (Finset.mem_filter.mpr ⟨Finset.mem_univ _, hj.trans hk'⟩)⟩

/-- The first position of the least entry. -/
def code (d : Fin 256 → EReal) : Fin 256 := (exists_isCode d).choose

/-- The code is the first position of the least entry. -/
theorem code_spec (d : Fin 256 → EReal) : IsCode d (code d) := (exists_isCode d).choose_spec

/-- Only one position is the first one of the least entry. -/
theorem IsCode.eq_code {d : Fin 256 → EReal} {k : Fin 256} (h : IsCode d k) : k = code d := by
  have h' := code_spec d
  have he : d k = d (code d) := le_antisymm (h.1 _) (h'.1 _)
  exact le_antisymm (h.2 _ he.symm) (h'.2 _ he)

/-- A position below 256 read as a signed 32-bit word is itself. -/
theorem toInt_pos (k : Fin 256) : (BitVec.ofNat 32 (k : ℕ)).toInt = (k : ℤ) := by
  have := k.isLt
  rw [BitVec.toInt_ofNat', Int.bmod_def]; omega

/-- A signed minimum is at least `x` when both words are. -/
theorem le_minsi {x y z : BitVec 32} :
    x.toInt ≤ (IntOp.minsi y z).toInt ↔ x.toInt ≤ y.toInt ∧ x.toInt ≤ z.toInt := by
  unfold IntOp.minsi
  simp only [BitVec.slt, decide_eq_true_eq]
  split <;> constructor <;> intro h <;> (try constructor) <;> omega

/-- The least entry, as a fold of `min` from plus infinity. -/
theorem fold_min (d : Fin 256 → EReal) : Finset.univ.fold min ⊤ d = d (code d) := by
  refine le_antisymm (Finset.fold_min_le _ |>.mpr (.inr ⟨_, Finset.mem_univ _, le_rfl⟩))
    (Finset.le_fold_min _ |>.mpr ⟨le_top, fun j _ => (code_spec d).1 j⟩)

/-- The signed minimum over the positions holding the least entry, the others counting 256. -/
theorem fold_minsi (d : Fin 256 → EReal) (g : Fin 256 → BitVec 32)
    (hg : ∀ k, g k = if d k = d (code d) then BitVec.ofNat 32 (k : ℕ) else 256#32) :
    Finset.univ.fold IntOp.minsi 2147483647#32 g = BitVec.ofNat 32 (code d : ℕ) := by
  have key := fun c : BitVec 32 => Finset.fold_op_rel_iff_and (op := IntOp.minsi) (r := fun x y : BitVec 32 => x.toInt ≤ y.toInt)
    (f := g) (b := 2147483647#32) (s := Finset.univ) (fun {x y z} => le_minsi) (c := c)
  apply BitVec.eq_of_toInt_eq
  apply le_antisymm
  · have h := ((key (Finset.univ.fold IntOp.minsi 2147483647#32 g)).mp le_rfl).2 (code d) (Finset.mem_univ _)
    rwa [hg, if_pos rfl] at h
  · refine (key _).mpr ⟨?_, fun j _ => ?_⟩
    · rw [toInt_pos]; have := (code d).isLt
      have : (2147483647#32).toInt = 2147483647 := by decide
      omega
    · rw [hg, toInt_pos]
      split
      · rename_i hj
        rw [toInt_pos]; exact_mod_cast (code_spec d).2 j hj
      · have : (256#32).toInt = 256 := by decide
        have := (code d).isLt; omega

end Cert.Vq

end
-- ==== Proof.Spec.lean ====
/-
  What both programs compute, row by row, over the extended reals: the encoder, the squashing map and its inverse, four
  rounds of "subtract the nearest code", the decoder, and the two losses.
-/
module

public import proofs.«01_k».proof.Proof.Code

@[expose] public section

noncomputable section

open Idealize.ShloMosaic

namespace Cert.Vq

/-- One affine layer: a row times a matrix plus a bias. -/
def layer {m n : ℕ} (h : Fin m → EReal) (W : Fin m → Fin n → EReal) (b : Fin n → EReal) : Fin n → EReal :=
  fun j => (∑ k, h k * W k j) + b j

/-- The rectifier, entry by entry. -/
def relu {n : ℕ} (h : Fin n → EReal) : Fin n → EReal := fun j => max (h j) 0

/-- Three affine layers with a rectifier after the first and after the second. -/
def mlp {n₀ n₁ n₂ n₃ : ℕ} (x : Fin n₀ → EReal) (W₁ : Fin n₀ → Fin n₁ → EReal) (b₁ : Fin n₁ → EReal)
    (W₂ : Fin n₁ → Fin n₂ → EReal) (b₂ : Fin n₂ → EReal) (W₃ : Fin n₂ → Fin n₃ → EReal) (b₃ : Fin n₃ → EReal) :
    Fin n₃ → EReal :=
  layer (relu (layer (relu (layer x W₁ b₁)) W₂ b₂)) W₃ b₃

/-- The shape parameter of an unconstrained parameter: `log (1 + e ^ x)` plus the small constant. -/
def shape (x : EReal) : EReal := Ideal.log (1 + Ideal.exp x) + eps

/-- `x` raised to `y` for a positive base, by exponential and logarithm. -/
def power (x y : EReal) : EReal := Ideal.exp (y * Ideal.log x)

/-- `x` held between `lo` and `hi`. -/
def clip (lo hi x : EReal) : EReal := min hi (max lo x)

/-- The squashing map with shape parameters `a` and `b`. -/
def squash (z a b : EReal) : EReal :=
  clip eps top1 (1 - power (clip eps 1 (1 - power (clip eps top1 (Ideal.logistic z)) a)) b)

/-- The inverse of the squashing map, given the reciprocals of the shape parameters. -/
def unsquash (y ia ib : EReal) : EReal :=
  let v := clip eps top1 (power (clip eps top1 (1 - power (clip eps 1 (1 - clip eps top1 y)) ib)) ia)
  Ideal.log (Ideal.div v (1 - v))

/-- The squared distances of a row to the 256 codes, expanded. -/
def dist (r : Fin 64 → EReal) (C : Fin 256 → Fin 64 → EReal) : Fin 256 → EReal :=
  fun k => (∑ q, r q * r q) - Ideal.ofBits .f32 0x40000000#32 * (∑ q, r q * C k q) + ∑ q, C k q * C k q

/-- The number of the code nearest to a row. -/
def pick (r : Fin 64 → EReal) (C : Fin 256 → Fin 64 → EReal) : Fin 256 := code (dist r C)

/-- A row minus its nearest code. -/
def next (r : Fin 64 → EReal) (C : Fin 256 → Fin 64 → EReal) : Fin 64 → EReal := fun q => r q - C (pick r C) q

/-- The nineteen arguments, read by coordinates. -/
structure Args where
  x : Fin 16384 → Fin 768 → EReal
  W1 : Fin 768 → Fin 1024 → EReal
  b1 : Fin 1024 → EReal
  W2 : Fin 1024 → Fin 512 → EReal
  b2 : Fin 512 → EReal
  W3 : Fin 512 → Fin 64 → EReal
  b3 : Fin 64 → EReal
  W4 : Fin 64 → Fin 512 → EReal
  b4 : Fin 512 → EReal
  W5 : Fin 512 → Fin 1024 → EReal
  b5 : Fin 1024 → EReal
  W6 : Fin 1024 → Fin 768 → EReal
  b6 : Fin 768 → EReal
  C0 : Fin 256 → Fin 64 → EReal
  C1 : Fin 256 → Fin 64 → EReal
  C2 : Fin 256 → Fin 64 → EReal
  C3 : Fin 256 → Fin 64 → EReal
  a : Fin 64 → EReal
  b : Fin 64 → EReal

namespace Args

variable (A : Args)

/-- The encoded row. -/
def z (i : Fin 16384) : Fin 64 → EReal := mlp (A.x i) A.W1 A.b1 A.W2 A.b2 A.W3 A.b3

/-- The squashed row. -/
def r0 (i : Fin 16384) : Fin 64 → EReal := fun q => squash (A.z i q) (shape (A.a q)) (shape (A.b q))

/-- The residuals after one, two, three and four rounds. -/
def r1 (i : Fin 16384) : Fin 64 → EReal := next (A.r0 i) A.C0
/-- The residual after the second round. -/
def r2 (i : Fin 16384) : Fin 64 → EReal := next (A.r1 i) A.C1
/-- The residual after the third round. -/
def r3 (i : Fin 16384) : Fin 64 → EReal := next (A.r2 i) A.C2
/-- The residual after the last round. -/
def r4 (i : Fin 16384) : Fin 64 → EReal := next (A.r3 i) A.C3

/-- The four code numbers of a row. -/
def k0 (i : Fin 16384) : Fin 256 := pick (A.r0 i) A.C0
/-- The second round's code. -/
def k1 (i : Fin 16384) : Fin 256 := pick (A.r1 i) A.C1
/-- The third round's code. -/
def k2 (i : Fin 16384) : Fin 256 := pick (A.r2 i) A.C2
/-- The last round's code. -/
def k3 (i : Fin 16384) : Fin 256 := pick (A.r3 i) A.C3

/-- The sum of the four codes of a row. -/
def qt (i : Fin 16384) : Fin 64 → EReal := fun q => A.C0 (A.k0 i) q + A.C1 (A.k1 i) q + A.C2 (A.k2 i) q + A.C3 (A.k3 i) q

/-- The code numbers by round. -/
def idx (i : Fin 16384) (s : Fin 4) : Fin 256 := ![A.k0 i, A.k1 i, A.k2 i, A.k3 i] s

/-- A row of `y`s taken back through the squashing map. -/
def back (y : Fin 64 → EReal) : Fin 64 → EReal :=
  fun q => unsquash (y q) (Ideal.div 1 (shape (A.a q))) (Ideal.div 1 (shape (A.b q)))

/-- The decoded row: the first result. -/
def out (i : Fin 16384) : Fin 768 → EReal := mlp (A.back (A.qt i)) A.W4 A.b4 A.W5 A.b5 A.W6 A.b6

/-- The squared error of the round trip through the squashing map, at one entry. -/
def nv (i : Fin 16384) (q : Fin 64) : EReal := (A.back (A.r0 i) q - A.z i q) * (A.back (A.r0 i) q - A.z i q)

end Args

end Cert.Vq

end
-- ==== Proof.KernelRows.lean ====
/-
  The kernel's vector values read at an entry: each equals the row function of Spec.lean on the matching row of the block.
-/
module

public import proofs.«01_k».proof.Proof.Spec
public import proofs.«01_k».proof.Proof.Gen.KernelIdeal.Skeleton

@[expose] public section

set_option maxRecDepth 16384

noncomputable section

open Idealize.ShloMosaic Idealize.ShloMosaic.TcCoe Idealize.SL.Sem
open Cert.KernelIdeal Cert.KernelIdeal.Gen

namespace Cert.Vq.K

/-- A matrix read by its two coordinates. -/
abbrev mat {m n : ℕ} (v : (⟨2, ![m, n]⟩ : Shape).Idx → EReal) : Fin m → Fin n → EReal := fun i j => v (ix2 i j)

/-- A one-row matrix read as a row. -/
abbrev row {n : ℕ} (v : (⟨2, ![1, n]⟩ : Shape).Idx → EReal) : Fin n → EReal := fun j => v (ix2 0 j)

/-- The encoder on a block is the encoder on its rows. -/
theorem enc_at (x : Vec Ideal S2048x768 .f32) (w1 : Vec Ideal S768x1024 .f32) (b1 : Vec Ideal S1x1024 .f32)
    (w2 : Vec Ideal S1024x512 .f32) (b2 : Vec Ideal S1x512 .f32) (w3 : Vec Ideal S512x64 .f32) (b3 : Vec Ideal S1x64 .f32)
    (p : Fin 2048) (q : Fin 64) :
    k0_pay3 (F := Ideal) x w1 b1 w2 b2 w3 b3 (ix2 p q)
      = mlp (mat x p) (mat w1) (row b1) (mat w2) (row b2) (mat w3) (row b3) q := by
  pointwise [k0_pay3]
  rfl

/-- The decoder on a block is the decoder on its rows. -/
theorem dec_at (x : FVec Ideal S2048x64 .f32) (w1 : Vec Ideal S64x512 .f32) (b1 : Vec Ideal S1x512 .f32)
    (w2 : Vec Ideal S512x1024 .f32) (b2 : Vec Ideal S1x1024 .f32) (w3 : Vec Ideal S1024x768 .f32) (b3 : Vec Ideal S1x768 .f32)
    (p : Fin 2048) (q : Fin 768) :
    k0_pay53 (F := Ideal) x w1 b1 w2 b2 w3 b3 (ix2 p q)
      = mlp (mat x p) (mat w1) (row b1) (mat w2) (row b2) (mat w3) (row b3) q := by
  pointwise [k0_pay53]
  rfl

/-- The first shape parameter, from an unconstrained one that is at most twenty. -/
theorem shape_a_at (r : Vec Ideal S1x64 .f32) (q : Fin 64) (h : r (ix2 0 q) ≤ Ideal.ofBits .f32 0x41A00000#32) :
    k0_pay7 (F := Ideal) (k0_pay4 (F := Ideal) r) (k0_pay5 (F := Ideal) r) (k0_pay6 (F := Ideal) r) (ix2 0 q) = shape (r (ix2 0 q)) := by
  pointwise [k0_pay7, k0_pay6, k0_pay4, k0_pay5]
  rw [if_neg (not_lt.mpr h), min_eq_left h]; rfl

/-- The second shape parameter likewise. -/
theorem shape_b_at (r : Vec Ideal S1x64 .f32) (q : Fin 64) (h : r (ix2 0 q) ≤ Ideal.ofBits .f32 0x41A00000#32) :
    k0_pay8 (F := Ideal) r (ix2 0 q) = shape (r (ix2 0 q)) := by
  pointwise [k0_pay8]
  rw [if_neg (not_lt.mpr h), min_eq_left h]; rfl

/-- The squashed block. -/
theorem squash_at (z : FVec Ideal S2048x64 .f32) (v27 : FVec Ideal S1x64 .f32) (v29 : IVec S1x64 1) (v32 : FVec Ideal S1x64 .f32)
    (v39 : Vec Ideal S1x64 .f32) (p : Fin 2048) (q : Fin 64) :
    k0_pay9 (F := Ideal) z v27 v29 v32 v39 (ix2 p q)
      = squash (z (ix2 p q)) (k0_pay7 (F := Ideal) v27 v29 v32 (ix2 0 q)) (k0_pay8 (F := Ideal) v39 (ix2 0 q)) := by
  pointwise [k0_pay9]
  rfl

/-- The decoder's input: the block taken back through the squashing map. -/
theorem back_at (va vb : FVec Ideal S1x64 .f32) (v78 : IVec S2048x256 32) (v224 : FVec Ideal S2048x64 .f32) (v233 : FVec Ideal S256x64 .f32)
    (v253 : IVec S2048 32) (p : Fin 2048) (q : Fin 64) :
    k0_pay49 (F := Ideal) (k0_pay46 (F := Ideal) va) (k0_pay48 (F := Ideal) vb v78 v224 v233 v253) (ix2 p q)
      = unsquash (v224 (ix2 p q) + k0_pay43 (F := Ideal) v78 v233 v253 (ix2 p q)) (Ideal.div 1 (va (ix2 0 q))) (Ideal.div 1 (vb (ix2 0 q))) := by
  pointwise [k0_pay49, k0_pay48, k0_pay46, k0_pay47]
  rfl

/-- The squared round-trip error summed over a block. -/
theorem nvq_at (z r : FVec Ideal S2048x64 .f32) (va vb : FVec Ideal S1x64 .f32) :
    k0_pay52 (F := Ideal) z (k0_pay50 (F := Ideal) r (k0_pay46 (F := Ideal) va) (k0_pay47 (F := Ideal) vb)) top1 (k0_pay51 (F := Ideal))
      = ∑ p : Fin 2048, ∑ q : Fin 64,
          (unsquash (r (ix2 p q)) (Ideal.div 1 (va (ix2 0 q))) (Ideal.div 1 (vb (ix2 0 q))) - z (ix2 p q))
          * (unsquash (r (ix2 p q)) (Ideal.div 1 (va (ix2 0 q))) (Ideal.div 1 (vb (ix2 0 q))) - z (ix2 p q)) := by
  pointwise [k0_pay52, k0_pay51, k0_pay50, k0_pay46, k0_pay47]
  rfl

/-- A codebook as the kernel loads it, read by code and coordinate. -/
abbrev book (c : Vec Ideal S1x256x64 .f32) : Fin 256 → Fin 64 → EReal := fun k q => c (ix3 0 k q)

/-- The code number a block's row gets in one round. -/
theorem pick_at (r : FVec Ideal S2048x64 .f32) (c : Vec Ideal S1x256x64 .f32) (p : Fin 2048) :
    k0_pay12 (F := Ideal) r c (ix1 p) = BitVec.ofNat 32 (pick (mat r p) (book c) : ℕ) := by
  pointwise [k0_pay12, k0_pay11]
  refine fold_minsi (dist (mat r p) (book c)) _ fun k => ?_
  rw [ofBits_inf]
  change (if dist (mat r p) (book c) k = Finset.univ.fold min ⊤ (dist (mat r p) (book c)) then _ else _) = _
  rw [fold_min]

/-- The weight of one position in the one-hot row of position `k₀`. -/
theorem onehot_weight (k₀ x : Fin 256) :
    FloatOps.sitofp (F := Ideal) FTy.f32
      (BitVec.setWidth 32 (IntOp.cmpi CmpIPredicate.eq (BitVec.ofNat 32 (x : ℕ)) (BitVec.ofNat 32 (k₀ : ℕ))))
      = if x = k₀ then (1 : EReal) else 0 := by
  have hb : (BitVec.ofNat 32 (x : ℕ) = BitVec.ofNat 32 (k₀ : ℕ)) ↔ x = k₀ := by
    constructor
    · intro h
      have := congrArg BitVec.toInt h
      rw [toInt_pos, toInt_pos] at this
      exact Fin.ext (by exact_mod_cast this)
    · rintro rfl; rfl
  by_cases h : x = k₀
  · subst h
    simp [IntOp.cmpi, FloatOps.sitofp]
  · have h' : ¬ (BitVec.ofNat 32 (x : ℕ) = BitVec.ofNat 32 (k₀ : ℕ)) := fun e => h (hb.mp e)
    simp [IntOp.cmpi, FloatOps.sitofp, h, beq_eq_false_iff_ne.mpr h']

/-- A sum of codes weighted by a one-hot row is the one code. -/
theorem onehot_sum (k₀ : Fin 256) (f : Fin 256 → EReal) :
    ∑ x : Fin 256, FloatOps.sitofp (F := Ideal) FTy.f32
      (BitVec.setWidth 32 (IntOp.cmpi CmpIPredicate.eq (BitVec.ofNat 32 (x : ℕ)) (BitVec.ofNat 32 (k₀ : ℕ)))) * f x = f k₀ := by
  rw [Finset.sum_eq_single k₀]
  · rw [onehot_weight, if_pos rfl]; exact one_mul _
  · intro b _ hb
    rw [onehot_weight, if_neg hb]; exact zero_mul _
  · simp

/-- The three parts that an entry is split into add up to the entry, unless it is plus infinity. -/
theorem split_sum (c : EReal) (h : c ≠ ⊤) : c + (c - c) + (c - c - (c - c)) = c := by
  induction c using EReal.rec with
  | coe t => rw [← EReal.coe_sub, sub_self, EReal.coe_zero]; simp
  | top => exact absurd rfl h
  | bot => simp

/-- The code a block's row gets in one round, for codes below plus infinity. -/
theorem take_at (r : FVec Ideal S2048x64 .f32) (c : Vec Ideal S1x256x64 .f32) (hc : ∀ k q, c (ix3 0 k q) ≠ ⊤)
    (p : Fin 2048) (q : Fin 64) :
    k0_pay13 (F := Ideal) r c (ix2 p q) = book c (pick (mat r p) (book c)) q := by
  pointwise [k0_pay13, k0_pay11]
  rw [pick_at, onehot_sum, onehot_sum, onehot_sum]
  exact split_sum _ (hc _ q)

/-- The residual after one round. -/
theorem next_at (r : FVec Ideal S2048x64 .f32) (c : Vec Ideal S1x256x64 .f32) (hc : ∀ k q, c (ix3 0 k q) ≠ ⊤)
    (p : Fin 2048) (q : Fin 64) :
    k0_pay16 (F := Ideal) r (k0_pay13 (F := Ideal) r c) (ix2 p q) = next (mat r p) (book c) q := by
  pointwise [k0_pay16]
  rw [take_at r c hc]; rfl

/-- The sum of the squares of a residual block. -/
theorem squares_at (r q : FVec Ideal S2048x64 .f32) :
    k0_pay17 (F := Ideal) r q = ∑ p : Fin 2048, ∑ j : Fin 64, k0_pay16 (F := Ideal) r q (ix2 p j) * k0_pay16 (F := Ideal) r q (ix2 p j) := by
  pointwise [k0_pay17]

end Cert.Vq.K

end
-- ==== Proof.KernelBlocks.lean ====
/-
  One grid point of the kernel: from blocks that hold the rows `ρ p` of the arguments, the values the body stores are the
  row functions of Spec.lean at the rows `ρ p`.
-/
module

public import proofs.«01_k».proof.Proof.KernelRows

@[expose] public section

set_option maxRecDepth 16384

noncomputable section

open Idealize.ShloMosaic Idealize.ShloMosaic.TcCoe Idealize.SL.Sem
open Cert.KernelIdeal Cert.KernelIdeal.Gen

namespace Cert.Vq.K

/-! ## The later rounds are the first round's functions -/

/-- The table of positions that every round compares with. -/
abbrev pos : IVec S2048x256 32 := iota .tc S2048x256 32 [1] iota_S2048x256_d1_w32

/-- The second round's code numbers. -/
theorem pick1_eq (r q : FVec Ideal S2048x64 .f32) (c : Vec Ideal S1x256x64 .f32) :
    k0_pay19 (F := Ideal) r pos q c = k0_pay12 (F := Ideal) (k0_pay16 (F := Ideal) r q) c := rfl

/-- The second round's codes. -/
theorem take1_eq (r q : FVec Ideal S2048x64 .f32) (c : Vec Ideal S1x256x64 .f32) :
    k0_pay26 (F := Ideal) (k0_pay20 (F := Ideal) r pos q c) (k0_pay23 (F := Ideal) c) (k0_pay24 (F := Ideal) c)
      (k0_pay25 (F := Ideal) r pos q c) (constant S2048x64 .f32 0x00000000#32)
      = k0_pay13 (F := Ideal) (k0_pay16 (F := Ideal) r q) c := rfl

/-- The third round's code numbers. -/
theorem pick2_eq (v123 : FVec Ideal S2048x64 .f32) (v157 : FVec Ideal S2048x256 .bf16) (v161 v164 : FVec Ideal S256x64 .bf16)
    (v165 cst : FVec Ideal S2048x64 .f32) (c : Vec Ideal S1x256x64 .f32) :
    k0_pay32 (F := Ideal) pos v123 v157 v161 v164 v165 cst c
      = k0_pay12 (F := Ideal) (k0_pay29 (F := Ideal) v123 v157 v161 v164 v165 cst) c := rfl

/-- The third round's codes. -/
theorem take2_eq (v123 : FVec Ideal S2048x64 .f32) (v157 : FVec Ideal S2048x256 .bf16) (v161 v164 : FVec Ideal S256x64 .bf16)
    (v165 cst : FVec Ideal S2048x64 .f32) (c : Vec Ideal S1x256x64 .f32) :
    k0_pay36 (F := Ideal) (k0_pay31 (F := Ideal) c) (k0_pay33 (F := Ideal) pos v123 v157 v161 v164 v165 cst c)
      (k0_pay34 (F := Ideal) c) (k0_pay35 (F := Ideal) c)
      = k0_pay13 (F := Ideal) (k0_pay29 (F := Ideal) v123 v157 v161 v164 v165 cst) c := rfl

/-- The fourth round's code numbers. -/
theorem pick3_eq (v174 : FVec Ideal S2048x64 .f32) (v182 : FVec Ideal S256x64 .f32) (v208 : FVec Ideal S2048x256 .bf16)
    (v209 : FVec Ideal S256x64 .bf16) (v210 : FVec Ideal S256x64 .f32) (c : Vec Ideal S1x256x64 .f32) :
    k0_pay42 (F := Ideal) pos v174 v182 v208 v209 v210 c
      = k0_pay12 (F := Ideal) (k0_pay39 (F := Ideal) v174 v182 v208 v209 v210) c := rfl

/-- The fourth round's codes. -/
theorem take3_eq (r : FVec Ideal S2048x64 .f32) (c : Vec Ideal S1x256x64 .f32) :
    k0_pay43 (F := Ideal) pos (k0_pay41 (F := Ideal) c) (k0_pay12 (F := Ideal) r c) = k0_pay13 (F := Ideal) r c := rfl

/-- The residual after the second round. -/
theorem next1_eq (r q : FVec Ideal S2048x64 .f32) (c : Vec Ideal S1x256x64 .f32) :
    k0_pay29 (F := Ideal) (k0_pay16 (F := Ideal) r q) (k0_pay20 (F := Ideal) r pos q c) (k0_pay23 (F := Ideal) c) (k0_pay24 (F := Ideal) c)
      (k0_pay25 (F := Ideal) r pos q c) (constant S2048x64 .f32 0x00000000#32)
      = k0_pay16 (F := Ideal) (k0_pay16 (F := Ideal) r q) (k0_pay13 (F := Ideal) (k0_pay16 (F := Ideal) r q) c) := rfl

/-- The residual after the third round. -/
theorem next2_eq (r v174 : FVec Ideal S2048x64 .f32) (v182 : FVec Ideal S256x64 .f32) (v208 : FVec Ideal S2048x256 .bf16)
    (v209 : FVec Ideal S256x64 .bf16) (v210 : FVec Ideal S256x64 .f32) :
    k0_pay39 (F := Ideal) v174 v182 v208 v209 v210 = k0_pay16 (F := Ideal) v174 (k0_pay36 (F := Ideal) v182 v208 v209 v210) := rfl

/-- The sum of codes after the second round. -/
theorem total1_eq (v122 : FVec Ideal S2048x64 .f32) (r q : FVec Ideal S2048x64 .f32) (c : Vec Ideal S1x256x64 .f32) :
    k0_pay28 (F := Ideal) v122 (k0_pay20 (F := Ideal) r pos q c) (k0_pay23 (F := Ideal) c) (k0_pay24 (F := Ideal) c)
      (k0_pay25 (F := Ideal) r pos q c) (constant S2048x64 .f32 0x00000000#32)
      = k0_pay15 (F := Ideal) v122 (k0_pay13 (F := Ideal) (k0_pay16 (F := Ideal) r q) c) := rfl

/-- The sum of codes after the third round. -/
theorem total2_eq (v173 : FVec Ideal S2048x64 .f32) (v182 : FVec Ideal S256x64 .f32) (v208 : FVec Ideal S2048x256 .bf16)
    (v209 : FVec Ideal S256x64 .bf16) (v210 : FVec Ideal S256x64 .f32) :
    k0_pay38 (F := Ideal) v173 v182 v208 v209 v210 = k0_pay15 (F := Ideal) v173 (k0_pay36 (F := Ideal) v182 v208 v209 v210) := rfl

/-- The running sum of squares after the second round. -/
theorem sum1_eq (s : EReal) (r q : FVec Ideal S2048x64 .f32) (c : Vec Ideal S1x256x64 .f32) :
    k0_pay30 (F := Ideal) (k0_pay16 (F := Ideal) r q) s (k0_pay20 (F := Ideal) r pos q c) (k0_pay23 (F := Ideal) c) (k0_pay24 (F := Ideal) c)
      (k0_pay25 (F := Ideal) r pos q c) (constant S2048x64 .f32 0x00000000#32)
      = s + k0_pay17 (F := Ideal) (k0_pay16 (F := Ideal) r q) (k0_pay13 (F := Ideal) (k0_pay16 (F := Ideal) r q) c) := by
  rw [squares_at]
  pointwise [k0_pay30, next1_eq]

/-- The running sum of squares after the third round. -/
theorem sum2_eq (s : EReal) (v174 : FVec Ideal S2048x64 .f32) (v182 : FVec Ideal S256x64 .f32) (v208 : FVec Ideal S2048x256 .bf16)
    (v209 : FVec Ideal S256x64 .bf16) (v210 : FVec Ideal S256x64 .f32) :
    k0_pay40 (F := Ideal) v174 s v182 v208 v209 v210
      = s + k0_pay17 (F := Ideal) v174 (k0_pay36 (F := Ideal) v182 v208 v209 v210) := by
  rw [squares_at]
  pointwise [k0_pay40, next2_eq]

/-- The running sum of squares after the fourth round. -/
theorem sum3_eq (s : EReal) (r : FVec Ideal S2048x64 .f32) (c : Vec Ideal S1x256x64 .f32) :
    k0_pay45 (F := Ideal) pos r s (k0_pay41 (F := Ideal) c) (k0_pay12 (F := Ideal) r c)
      = s + k0_pay17 (F := Ideal) r (k0_pay13 (F := Ideal) r c) := by
  rw [squares_at]
  pointwise [k0_pay45, take3_eq, k0_pay16]

/-! ## The blocks of one point -/

/-- The sixteen input blocks of a point hold the arguments, the rows `ρ p` of `x` among them. -/
structure Holds (A : Args) (ρ : Fin 2048 → Fin 16384) (x0 : Vec Ideal S2048x768 .f32) (x1 : Vec Ideal S768x1024 .f32) (x2 : Vec Ideal S1x1024 .f32)
    (x3 : Vec Ideal S1024x512 .f32) (x4 : Vec Ideal S1x512 .f32) (x5 : Vec Ideal S512x64 .f32) (x6 : Vec Ideal S1x64 .f32)
    (x7 : Vec Ideal S64x512 .f32) (x8 : Vec Ideal S1x512 .f32) (x9 : Vec Ideal S512x1024 .f32) (x10 : Vec Ideal S1x1024 .f32)
    (x11 : Vec Ideal S1024x768 .f32) (x12 : Vec Ideal S1x768 .f32) (c0 c1 c2 c3 : Vec Ideal S1x256x64 .f32)
    (x14 x15 : Vec Ideal S1x64 .f32) : Prop where
  hx : ∀ p, mat x0 p = A.x (ρ p)
  hW1 : mat x1 = A.W1
  hb1 : row x2 = A.b1
  hW2 : mat x3 = A.W2
  hb2 : row x4 = A.b2
  hW3 : mat x5 = A.W3
  hb3 : row x6 = A.b3
  hW4 : mat x7 = A.W4
  hb4 : row x8 = A.b4
  hW5 : mat x9 = A.W5
  hb5 : row x10 = A.b5
  hW6 : mat x11 = A.W6
  hb6 : row x12 = A.b6
  hC0 : book c0 = A.C0
  hC1 : book c1 = A.C1
  hC2 : book c2 = A.C2
  hC3 : book c3 = A.C3
  ha : row x14 = A.a
  hb : row x15 = A.b

/-- What the precondition gives: codes below plus infinity, and shape parameters at most twenty. -/
structure Fine (A : Args) : Prop where
  f0 : ∀ k q, A.C0 k q ≠ ⊤
  f1 : ∀ k q, A.C1 k q ≠ ⊤
  f2 : ∀ k q, A.C2 k q ≠ ⊤
  f3 : ∀ k q, A.C3 k q ≠ ⊤
  ga : ∀ q, A.a q ≤ Ideal.ofBits .f32 0x41A00000#32
  gb : ∀ q, A.b q ≤ Ideal.ofBits .f32 0x41A00000#32

section

variable (x0 : Vec Ideal S2048x768 .f32) (x1 : Vec Ideal S768x1024 .f32) (x2 : Vec Ideal S1x1024 .f32)
    (x3 : Vec Ideal S1024x512 .f32) (x4 : Vec Ideal S1x512 .f32) (x5 : Vec Ideal S512x64 .f32) (x6 : Vec Ideal S1x64 .f32)
    (x7 : Vec Ideal S64x512 .f32) (x8 : Vec Ideal S1x512 .f32) (x9 : Vec Ideal S512x1024 .f32) (x10 : Vec Ideal S1x1024 .f32)
    (x11 : Vec Ideal S1024x768 .f32) (x12 : Vec Ideal S1x768 .f32) (c0 c1 c2 c3 : Vec Ideal S1x256x64 .f32)
    (x14 x15 : Vec Ideal S1x64 .f32)

/-- The encoded block. -/
abbrev zB : FVec Ideal S2048x64 .f32 := k0_pay3 (F := Ideal) x0 x1 x2 x3 x4 x5 x6

/-- The two rows of shape parameters. -/
abbrev aB : FVec Ideal S1x64 .f32 := k0_pay7 (F := Ideal) (k0_pay4 (F := Ideal) x14) (k0_pay5 (F := Ideal) x14) (k0_pay6 (F := Ideal) x14)
/-- The second shape, as a row. -/
abbrev bB : FVec Ideal S1x64 .f32 := k0_pay8 (F := Ideal) x15

/-- The squashed block, and the residual blocks. -/
abbrev r0B : FVec Ideal S2048x64 .f32 :=
  k0_pay9 (F := Ideal) (zB x0 x1 x2 x3 x4 x5 x6) (k0_pay4 (F := Ideal) x14) (k0_pay5 (F := Ideal) x14) (k0_pay6 (F := Ideal) x14) x15
/-- One round on a block. -/
abbrev stepB (r : FVec Ideal S2048x64 .f32) (c : Vec Ideal S1x256x64 .f32) : FVec Ideal S2048x64 .f32 :=
  k0_pay16 (F := Ideal) r (k0_pay13 (F := Ideal) r c)

variable {x0 x1 x2 x3 x4 x5 x6 x7 x8 x9 x10 x11 x12 c0 c1 c2 c3 x14 x15} {A : Args} {ρ : Fin 2048 → Fin 16384}
  (H : Holds A ρ x0 x1 x2 x3 x4 x5 x6 x7 x8 x9 x10 x11 x12 c0 c1 c2 c3 x14 x15) (G : Fine A)

/-- The sum of the first three codes of each row. -/
abbrev totB (r : FVec Ideal S2048x64 .f32) (c0 c1 c2 : Vec Ideal S1x256x64 .f32) : FVec Ideal S2048x64 .f32 :=
  k0_pay15 (F := Ideal) (k0_pay15 (F := Ideal) (k0_pay15 (F := Ideal) (k0_pay10 (F := Ideal)) (k0_pay13 (F := Ideal) r c0)) (k0_pay13 (F := Ideal) (stepB r c0) c1))
    (k0_pay13 (F := Ideal) (stepB (stepB r c0) c1) c2)

/-- The intermediate values of the second and third rounds as the body names them. -/
abbrev v157 (r : FVec Ideal S2048x64 .f32) (c0 c1 : Vec Ideal S1x256x64 .f32) := k0_pay20 (F := Ideal) r pos (k0_pay13 (F := Ideal) r c0) c1
/-- The second round's part of the code that comes from the high halves, as the body holds it. -/
abbrev v165 (r : FVec Ideal S2048x64 .f32) (c0 c1 : Vec Ideal S1x256x64 .f32) := k0_pay25 (F := Ideal) r pos (k0_pay13 (F := Ideal) r c0) c1
/-- The residual after the second round, as the body holds it. -/
abbrev v174 (r : FVec Ideal S2048x64 .f32) (c0 c1 : Vec Ideal S1x256x64 .f32) :=
  k0_pay29 (F := Ideal) (stepB r c0) (v157 r c0 c1) (k0_pay23 (F := Ideal) c1) (k0_pay24 (F := Ideal) c1) (v165 r c0 c1)
    (constant S2048x64 .f32 0x00000000#32)
/-- The third round's one-hot rows, as the body holds them. -/
abbrev v208 (r : FVec Ideal S2048x64 .f32) (c0 c1 c2 : Vec Ideal S1x256x64 .f32) :=
  k0_pay33 (F := Ideal) pos (stepB r c0) (v157 r c0 c1) (k0_pay23 (F := Ideal) c1) (k0_pay24 (F := Ideal) c1) (v165 r c0 c1)
    (constant S2048x64 .f32 0x00000000#32) c2

/-- The third round's code numbers as the body stores them. -/
abbrev pick2B (r : FVec Ideal S2048x64 .f32) (c0 c1 c2 : Vec Ideal S1x256x64 .f32) : IVec S2048 32 :=
  k0_pay32 (F := Ideal) pos (stepB r c0) (v157 r c0 c1) (k0_pay23 (F := Ideal) c1) (k0_pay24 (F := Ideal) c1) (v165 r c0 c1)
    (constant S2048x64 .f32 0x00000000#32) c2

/-- The fourth round's code numbers as the body stores them. -/
abbrev pick3B (r : FVec Ideal S2048x64 .f32) (c0 c1 c2 c3 : Vec Ideal S1x256x64 .f32) : IVec S2048 32 :=
  k0_pay42 (F := Ideal) pos (v174 r c0 c1) (k0_pay31 (F := Ideal) c2) (v208 r c0 c1 c2) (k0_pay34 (F := Ideal) c2) (k0_pay35 (F := Ideal) c2) c3

/-- The sum of the first three codes as the body forms it. -/
abbrev tot2B (r : FVec Ideal S2048x64 .f32) (c0 c1 c2 : Vec Ideal S1x256x64 .f32) : FVec Ideal S2048x64 .f32 :=
  k0_pay38 (F := Ideal)
    (k0_pay28 (F := Ideal) (k0_pay15 (F := Ideal) (k0_pay10 (F := Ideal)) (k0_pay13 (F := Ideal) r c0)) (v157 r c0 c1) (k0_pay23 (F := Ideal) c1) (k0_pay24 (F := Ideal) c1) (v165 r c0 c1)
      (constant S2048x64 .f32 0x00000000#32))
    (k0_pay31 (F := Ideal) c2) (v208 r c0 c1 c2) (k0_pay34 (F := Ideal) c2) (k0_pay35 (F := Ideal) c2)

/-- The sum of the squares of the four residual blocks as the body forms it. -/
abbrev sumB (r : FVec Ideal S2048x64 .f32) (c0 c1 c2 c3 : Vec Ideal S1x256x64 .f32) : EReal :=
  k0_pay45 (F := Ideal) pos
    (k0_pay39 (F := Ideal) (v174 r c0 c1) (k0_pay31 (F := Ideal) c2) (v208 r c0 c1 c2) (k0_pay34 (F := Ideal) c2) (k0_pay35 (F := Ideal) c2))
    (k0_pay40 (F := Ideal) (v174 r c0 c1)
      (k0_pay30 (F := Ideal) (stepB r c0) (k0_pay17 (F := Ideal) r (k0_pay13 (F := Ideal) r c0)) (v157 r c0 c1) (k0_pay23 (F := Ideal) c1)
        (k0_pay24 (F := Ideal) c1) (v165 r c0 c1) (constant S2048x64 .f32 0x00000000#32))
      (k0_pay31 (F := Ideal) c2) (v208 r c0 c1 c2) (k0_pay34 (F := Ideal) c2) (k0_pay35 (F := Ideal) c2))
    (k0_pay41 (F := Ideal) c3) (pick3B r c0 c1 c2 c3)

/-- The decoded block as the body forms it. -/
abbrev outB (r : FVec Ideal S2048x64 .f32) (a b : FVec Ideal S1x64 .f32) (c0 c1 c2 c3 : Vec Ideal S1x256x64 .f32)
    (x7 : Vec Ideal S64x512 .f32) (x8 : Vec Ideal S1x512 .f32) (x9 : Vec Ideal S512x1024 .f32) (x10 : Vec Ideal S1x1024 .f32)
    (x11 : Vec Ideal S1024x768 .f32) (x12 : Vec Ideal S1x768 .f32) : FVec Ideal S2048x768 .f32 :=
  k0_pay53 (F := Ideal)
    (k0_pay49 (F := Ideal) (k0_pay46 (F := Ideal) a)
      (k0_pay48 (F := Ideal) b pos (tot2B r c0 c1 c2) (k0_pay41 (F := Ideal) c3) (pick3B r c0 c1 c2 c3)))
    x7 x8 x9 x10 x11 x12

section

variable (r : FVec Ideal S2048x64 .f32) (c0 c1 c2 c3 : Vec Ideal S1x256x64 .f32)

/-- The third residual block is three rounds on the block. -/
theorem v174_eq : v174 r c0 c1 = stepB (stepB r c0) c1 := next1_eq r _ c1

/-- The third round's codes are one round on the third residual block. -/
theorem take2B_eq : k0_pay36 (F := Ideal) (k0_pay31 (F := Ideal) c2) (v208 r c0 c1 c2) (k0_pay34 (F := Ideal) c2) (k0_pay35 (F := Ideal) c2)
    = k0_pay13 (F := Ideal) (stepB (stepB r c0) c1) c2 := by
  rw [← v174_eq]; exact take2_eq _ _ _ _ _ _ _

/-- The fourth residual block. -/
theorem v225_eq : k0_pay39 (F := Ideal) (v174 r c0 c1) (k0_pay31 (F := Ideal) c2) (v208 r c0 c1 c2) (k0_pay34 (F := Ideal) c2) (k0_pay35 (F := Ideal) c2)
    = stepB (stepB (stepB r c0) c1) c2 := by
  rw [next2_eq (v174 r c0 c1), take2B_eq, v174_eq]

/-- The third round's code numbers. -/
theorem pick2B_eq : pick2B r c0 c1 c2 = k0_pay12 (F := Ideal) (stepB (stepB r c0) c1) c2 := by
  rw [← v174_eq]; exact pick2_eq _ _ _ _ _ _ _

/-- The fourth round's code numbers. -/
theorem pick3B_eq : pick3B r c0 c1 c2 c3 = k0_pay12 (F := Ideal) (stepB (stepB (stepB r c0) c1) c2) c3 := by
  rw [← v225_eq]; exact pick3_eq _ _ _ _ _ _

/-- The sum of the first three codes. -/
theorem tot2B_eq : tot2B r c0 c1 c2 = totB r c0 c1 c2 := by
  rw [tot2B, total2_eq, take2B_eq, total1_eq _ r]

/-- The sum of the squares, by rounds. -/
theorem sumB_eq : sumB r c0 c1 c2 c3
    = k0_pay17 (F := Ideal) r (k0_pay13 (F := Ideal) r c0)
    + k0_pay17 (F := Ideal) (stepB r c0) (k0_pay13 (F := Ideal) (stepB r c0) c1)
    + k0_pay17 (F := Ideal) (stepB (stepB r c0) c1) (k0_pay13 (F := Ideal) (stepB (stepB r c0) c1) c2)
    + k0_pay17 (F := Ideal) (stepB (stepB (stepB r c0) c1) c2) (k0_pay13 (F := Ideal) (stepB (stepB (stepB r c0) c1) c2) c3) := by
  rw [sumB, v225_eq, pick3B_eq, sum3_eq, sum2_eq, take2B_eq, sum1_eq, v174_eq]

end

/-- One round on a block is one round on each of its rows. -/
theorem step_row (r : FVec Ideal S2048x64 .f32) (c : Vec Ideal S1x256x64 .f32) (C : Fin 256 → Fin 64 → EReal) (hc : book c = C)
    (f : ∀ k q, C k q ≠ ⊤) (p : Fin 2048) (v : Fin 64 → EReal) (hr : mat r p = v) : mat (stepB r c) p = next v C := by
  subst hc hr
  funext q
  exact next_at r c f p q

/-- The code one round takes for a row. -/
theorem take_row (r : FVec Ideal S2048x64 .f32) (c : Vec Ideal S1x256x64 .f32) (C : Fin 256 → Fin 64 → EReal) (hc : book c = C)
    (f : ∀ k q, C k q ≠ ⊤) (p : Fin 2048) (v : Fin 64 → EReal) (hr : mat r p = v) (q : Fin 64) :
    k0_pay13 (F := Ideal) r c (ix2 p q) = C (pick v C) q := by
  subst hc hr
  exact take_at r c f p q

/-- The code number one round takes for a row. -/
theorem pick_row (r : FVec Ideal S2048x64 .f32) (c : Vec Ideal S1x256x64 .f32) (C : Fin 256 → Fin 64 → EReal) (hc : book c = C)
    (p : Fin 2048) (v : Fin 64 → EReal) (hr : mat r p = v) :
    k0_pay12 (F := Ideal) r c (ix1 p) = BitVec.ofNat 32 (pick v C : ℕ) := by
  subst hc hr
  exact pick_at r c p

/-- The sum of the squares one round leaves. -/
theorem squares_row (r : FVec Ideal S2048x64 .f32) (c : Vec Ideal S1x256x64 .f32) (w : Fin 2048 → Fin 64 → EReal)
    (hw : ∀ p, mat (stepB r c) p = w p) :
    k0_pay17 (F := Ideal) r (k0_pay13 (F := Ideal) r c) = ∑ p : Fin 2048, ∑ q : Fin 64, w p q * w p q := by
  rw [squares_at]
  exact Finset.sum_congr rfl fun p _ => Finset.sum_congr rfl fun q _ => by rw [← hw p]

include H G

/-- The encoded block holds the encoded rows. -/
theorem zB_at (p : Fin 2048) (q : Fin 64) : zB x0 x1 x2 x3 x4 x5 x6 (ix2 p q) = A.z (ρ p) q := by
  rw [zB, enc_at, H.hx, H.hW1, H.hb1, H.hW2, H.hb2, H.hW3, H.hb3]; rfl

/-- The first row of shape parameters. -/
theorem aB_at (q : Fin 64) : aB x14 (ix2 0 q) = shape (A.a q) := by
  have h : x14 (ix2 0 q) = A.a q := congrFun H.ha q
  rw [aB, shape_a_at _ _ (by rw [h]; exact G.ga q), h]

/-- The second row of shape parameters. -/
theorem bB_at (q : Fin 64) : bB x15 (ix2 0 q) = shape (A.b q) := by
  have h : x15 (ix2 0 q) = A.b q := congrFun H.hb q
  rw [bB, shape_b_at _ _ (by rw [h]; exact G.gb q), h]

/-- The squashed block holds the squashed rows. -/
theorem r0B_row (p : Fin 2048) : mat (r0B x0 x1 x2 x3 x4 x5 x6 x14 x15) p = A.r0 (ρ p) := by
  funext q
  show r0B x0 x1 x2 x3 x4 x5 x6 x14 x15 (ix2 p q) = _
  rw [r0B, squash_at, zB_at H G, ← aB, aB_at H G, ← bB, bB_at H G]; rfl

/-- The residual blocks hold the residual rows. -/
theorem r1B_row (p : Fin 2048) : mat (stepB (r0B x0 x1 x2 x3 x4 x5 x6 x14 x15) c0) p = A.r1 (ρ p) :=
  step_row _ _ _ H.hC0 G.f0 p _ (r0B_row H G p)
/-- A row of the residual after the second round. -/
theorem r2B_row (p : Fin 2048) : mat (stepB (stepB (r0B x0 x1 x2 x3 x4 x5 x6 x14 x15) c0) c1) p = A.r2 (ρ p) :=
  step_row _ _ _ H.hC1 G.f1 p _ (r1B_row H G p)
/-- A row of the residual after the third round. -/
theorem r3B_row (p : Fin 2048) : mat (stepB (stepB (stepB (r0B x0 x1 x2 x3 x4 x5 x6 x14 x15) c0) c1) c2) p = A.r3 (ρ p) :=
  step_row _ _ _ H.hC2 G.f2 p _ (r2B_row H G p)
/-- A row of the residual after the last round. -/
theorem r4B_row (p : Fin 2048) :
    mat (stepB (stepB (stepB (stepB (r0B x0 x1 x2 x3 x4 x5 x6 x14 x15) c0) c1) c2) c3) p = A.r4 (ρ p) :=
  step_row _ _ _ H.hC3 G.f3 p _ (r3B_row H G p)

/-- The code numbers of the four rounds, row by row. -/
theorem k0B_at (p : Fin 2048) :
    k0_pay12 (F := Ideal) (r0B x0 x1 x2 x3 x4 x5 x6 x14 x15) c0 (ix1 p) = BitVec.ofNat 32 (A.k0 (ρ p) : ℕ) :=
  pick_row _ _ _ H.hC0 p _ (r0B_row H G p)
/-- The second round's code number of a row. -/
theorem k1B_at (p : Fin 2048) :
    k0_pay19 (F := Ideal) (r0B x0 x1 x2 x3 x4 x5 x6 x14 x15) pos (k0_pay13 (F := Ideal) (r0B x0 x1 x2 x3 x4 x5 x6 x14 x15) c0) c1 (ix1 p)
      = BitVec.ofNat 32 (A.k1 (ρ p) : ℕ) := by
  rw [pick1_eq]; exact pick_row _ _ _ H.hC1 p _ (r1B_row H G p)
/-- The third round's code number of a row. -/
theorem k2B_at (p : Fin 2048) :
    pick2B (r0B x0 x1 x2 x3 x4 x5 x6 x14 x15) c0 c1 c2 (ix1 p) = BitVec.ofNat 32 (A.k2 (ρ p) : ℕ) := by
  rw [pick2B_eq]; exact pick_row _ _ _ H.hC2 p _ (r2B_row H G p)
/-- The last round's code number of a row. -/
theorem k3B_at (p : Fin 2048) :
    pick3B (r0B x0 x1 x2 x3 x4 x5 x6 x14 x15) c0 c1 c2 c3 (ix1 p) = BitVec.ofNat 32 (A.k3 (ρ p) : ℕ) := by
  rw [pick3B_eq]; exact pick_row _ _ _ H.hC3 p _ (r3B_row H G p)

/-- The sum of the first three codes, row by row. -/
theorem totB_at (p : Fin 2048) (q : Fin 64) :
    totB (r0B x0 x1 x2 x3 x4 x5 x6 x14 x15) c0 c1 c2 (ix2 p q)
      = A.C0 (A.k0 (ρ p)) q + A.C1 (A.k1 (ρ p)) q + A.C2 (A.k2 (ρ p)) q := by
  have h0 := take_row _ _ _ H.hC0 G.f0 p _ (r0B_row H G p) q
  have h1 := take_row _ _ _ H.hC1 G.f1 p _ (r1B_row H G p) q
  have h2 := take_row _ _ _ H.hC2 G.f2 p _ (r2B_row H G p) q
  pointwise [k0_pay15, k0_pay10]
  rw [h0, h1, h2]; rfl

/-- The decoded block holds the decoded rows. -/
theorem outB_at (p : Fin 2048) (q : Fin 768) :
    outB (r0B x0 x1 x2 x3 x4 x5 x6 x14 x15) (aB x14) (bB x15) c0 c1 c2 c3 x7 x8 x9 x10 x11 x12 (ix2 p q) = A.out (ρ p) q := by
  rw [outB, dec_at, H.hW4, H.hb4, H.hW5, H.hb5, H.hW6, H.hb6]
  congr 1
  funext j
  show k0_pay49 (F := Ideal) _ _ (ix2 p j) = _
  rw [back_at, pick3B_eq, take3_eq, tot2B_eq, totB_at H G, aB_at H G, bB_at H G, take_row _ _ _ H.hC3 G.f3 p _ (r3B_row H G p)]
  rfl

/-- The four rounds' sums of squares over the block. -/
theorem sumB_val :
    sumB (r0B x0 x1 x2 x3 x4 x5 x6 x14 x15) c0 c1 c2 c3
      = (∑ p, ∑ q, A.r1 (ρ p) q * A.r1 (ρ p) q) + (∑ p, ∑ q, A.r2 (ρ p) q * A.r2 (ρ p) q)
        + (∑ p, ∑ q, A.r3 (ρ p) q * A.r3 (ρ p) q) + ∑ p, ∑ q, A.r4 (ρ p) q * A.r4 (ρ p) q := by
  rw [sumB_eq, squares_row _ _ _ (r1B_row H G), squares_row _ _ _ (r2B_row H G), squares_row _ _ _ (r3B_row H G),
    squares_row _ _ _ (r4B_row H G)]

/-- The round-trip error over the block. -/
theorem nvB_val :
    k0_pay52 (F := Ideal) (zB x0 x1 x2 x3 x4 x5 x6)
        (k0_pay50 (F := Ideal) (r0B x0 x1 x2 x3 x4 x5 x6 x14 x15) (k0_pay46 (F := Ideal) (aB x14)) (k0_pay47 (F := Ideal) (bB x15)))
        top1 (k0_pay51 (F := Ideal))
      = ∑ p, ∑ q, A.nv (ρ p) q := by
  rw [nvq_at]
  refine Finset.sum_congr rfl fun p _ => Finset.sum_congr rfl fun q _ => ?_
  have h := congrFun (r0B_row H G p) q
  rw [zB_at H G, aB_at H G, bB_at H G, show r0B x0 x1 x2 x3 x4 x5 x6 x14 x15 (ix2 p q) = _ from h]
  rfl

end

end Cert.Vq.K

end
-- ==== Proof.KernelHolds.lean ====
/-
  The input blocks of a grid point of the kernel hold the arguments: the rows `2048 t + p` of the inputs and the whole of
  every other argument.
-/
module

public import proofs.«01_k».proof.Proof.KernelBlocks
public import proofs.«01_k».proof.Proof.Gen.KernelIdeal.Frame
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Cert.KernelIdeal Cert.KernelIdeal.Gen

namespace Cert.Vq.K

variable (m : (ℓ : Loc nD τ sig) → Buf (Elt Ideal) ℓ) (c : Dev nD)

/-- A vector read as a row. -/
abbrev vec {n : ℕ} (v : (⟨1, ![n]⟩ : Shape).Idx → EReal) : Fin n → EReal := fun j => v (ix1 j)

/-- The arguments a memory of the kernel holds. -/
def args : Args where
  x := mat (m ((c : Thread nD τ).loc main_arg0))
  W1 := mat (m ((c : Thread nD τ).loc main_arg1))
  b1 := vec (m ((c : Thread nD τ).loc main_arg2))
  W2 := mat (m ((c : Thread nD τ).loc main_arg3))
  b2 := vec (m ((c : Thread nD τ).loc main_arg4))
  W3 := mat (m ((c : Thread nD τ).loc main_arg5))
  b3 := vec (m ((c : Thread nD τ).loc main_arg6))
  W4 := mat (m ((c : Thread nD τ).loc main_arg7))
  b4 := vec (m ((c : Thread nD τ).loc main_arg8))
  W5 := mat (m ((c : Thread nD τ).loc main_arg9))
  b5 := vec (m ((c : Thread nD τ).loc main_arg10))
  W6 := mat (m ((c : Thread nD τ).loc main_arg11))
  b6 := vec (m ((c : Thread nD τ).loc main_arg12))
  C0 := mat (m ((c : Thread nD τ).loc main_arg13))
  C1 := mat (m ((c : Thread nD τ).loc main_arg14))
  C2 := mat (m ((c : Thread nD τ).loc main_arg15))
  C3 := mat (m ((c : Thread nD τ).loc main_arg16))
  a := vec (m ((c : Thread nD τ).loc main_arg17))
  b := vec (m ((c : Thread nD τ).loc main_arg18))

/-- The row of the inputs that row `p` of point `t`'s block is. -/
def rowOf (t : Fin cfg0.N) (p : Fin 2048) : Fin 16384 :=
  ⟨2048 * t.val + p.val, by have := lt_of_lt_of_eq t.isLt (show cfg0.N = 8 from N_0); omega⟩

/-- Round `s`'s page of the stacked codebooks, as the body loads it. -/
abbrev page0 (t : Fin cfg0.N) : Vec Ideal S1x256x64 .f32 := View.ld (iblk m c 13 t) (Rect.unit ![0, 0, 0] ![1, 256, 64] inb_S4x256x64_S1x256x64_0_0_0)
/-- Round 1's page of the stacked codebooks, as the body loads it. -/
abbrev page1 (t : Fin cfg0.N) : Vec Ideal S1x256x64 .f32 := View.ld (iblk m c 13 t) (Rect.unit ![1, 0, 0] ![1, 256, 64] inb_S4x256x64_S1x256x64_1_0_0)
/-- Round 2's page of the stacked codebooks, as the body loads it. -/
abbrev page2 (t : Fin cfg0.N) : Vec Ideal S1x256x64 .f32 := View.ld (iblk m c 13 t) (Rect.unit ![2, 0, 0] ![1, 256, 64] inb_S4x256x64_S1x256x64_2_0_0)
/-- Round 3's page of the stacked codebooks, as the body loads it. -/
abbrev page3 (t : Fin cfg0.N) : Vec Ideal S1x256x64 .f32 := View.ld (iblk m c 13 t) (Rect.unit ![3, 0, 0] ![1, 256, 64] inb_S4x256x64_S1x256x64_3_0_0)

/-- Where the windows stand: the inputs move by rows of blocks, every other operand stays whole. -/
theorem at0 : ∀ t : Fin cfg0.N, win0_0.index t = ![t.val, 0] := (by decide +kernel : ∀ t : Fin grid0.N, _)
/-- Window 1 stays on its first block. -/
theorem at1 : ∀ t : Fin cfg0.N, win0_1.index t = ![0, 0] := (by decide +kernel : ∀ t : Fin grid0.N, _)
/-- Window 2 stays on its first block. -/
theorem at2 : ∀ t : Fin cfg0.N, win0_2.index t = ![0, 0] := (by decide +kernel : ∀ t : Fin grid0.N, _)
/-- Window 3 stays on its first block. -/
theorem at3 : ∀ t : Fin cfg0.N, win0_3.index t = ![0, 0] := (by decide +kernel : ∀ t : Fin grid0.N, _)
/-- Window 4 stays on its first block. -/
theorem at4 : ∀ t : Fin cfg0.N, win0_4.index t = ![0, 0] := (by decide +kernel : ∀ t : Fin grid0.N, _)
/-- Window 5 stays on its first block. -/
theorem at5 : ∀ t : Fin cfg0.N, win0_5.index t = ![0, 0] := (by decide +kernel : ∀ t : Fin grid0.N, _)
/-- Window 6 stays on its first block. -/
theorem at6 : ∀ t : Fin cfg0.N, win0_6.index t = ![0, 0] := (by decide +kernel : ∀ t : Fin grid0.N, _)
/-- Window 7 stays on its first block. -/
theorem at7 : ∀ t : Fin cfg0.N, win0_7.index t = ![0, 0] := (by decide +kernel : ∀ t : Fin grid0.N, _)
/-- Window 8 stays on its first block. -/
theorem at8 : ∀ t : Fin cfg0.N, win0_8.index t = ![0, 0] := (by decide +kernel : ∀ t : Fin grid0.N, _)
/-- Window 9 stays on its first block. -/
theorem at9 : ∀ t : Fin cfg0.N, win0_9.index t = ![0, 0] := (by decide +kernel : ∀ t : Fin grid0.N, _)
/-- Window 10 stays on its first block. -/
theorem at10 : ∀ t : Fin cfg0.N, win0_10.index t = ![0, 0] := (by decide +kernel : ∀ t : Fin grid0.N, _)
/-- Window 11 stays on its first block. -/
theorem at11 : ∀ t : Fin cfg0.N, win0_11.index t = ![0, 0] := (by decide +kernel : ∀ t : Fin grid0.N, _)
/-- Window 12 stays on its first block. -/
theorem at12 : ∀ t : Fin cfg0.N, win0_12.index t = ![0, 0] := (by decide +kernel : ∀ t : Fin grid0.N, _)
/-- Window 14 stays on its first block. -/
theorem at14 : ∀ t : Fin cfg0.N, win0_14.index t = ![0, 0] := (by decide +kernel : ∀ t : Fin grid0.N, _)
/-- Window 15 stays on its first block. -/
theorem at15 : ∀ t : Fin cfg0.N, win0_15.index t = ![0, 0] := (by decide +kernel : ∀ t : Fin grid0.N, _)
/-- Window 13 stays on its first block. -/
theorem at13 : ∀ t : Fin cfg0.N, win0_13.index t = ![0, 0, 0] := (by decide +kernel : ∀ t : Fin grid0.N, _)

/-! The operands the host lays out before the launch: the row vectors and the stack of codebooks. -/

/-- The row that holds the first bias. -/
theorem entry13 (q : Fin 1024) : V m c main_v13 (ix2 0 q) = m ((c : Thread nD τ).loc main_arg2) (ix1 q) := by
  show StableHlo.after hostOps0 (fun b => m (c, b)) (Proc.tc.devRef main_v13) (ix2 0 q) = _
  after_reads_simp
  pointwise
/-- The row that holds the second bias. -/
theorem entry14 (q : Fin 512) : V m c main_v14 (ix2 0 q) = m ((c : Thread nD τ).loc main_arg4) (ix1 q) := by
  show StableHlo.after hostOps0 (fun b => m (c, b)) (Proc.tc.devRef main_v14) (ix2 0 q) = _
  after_reads_simp
  pointwise
/-- The row that holds the third bias. -/
theorem entry15 (q : Fin 64) : V m c main_v15 (ix2 0 q) = m ((c : Thread nD τ).loc main_arg6) (ix1 q) := by
  show StableHlo.after hostOps0 (fun b => m (c, b)) (Proc.tc.devRef main_v15) (ix2 0 q) = _
  after_reads_simp
  pointwise
/-- The row that holds the fourth bias. -/
theorem entry16 (q : Fin 512) : V m c main_v16 (ix2 0 q) = m ((c : Thread nD τ).loc main_arg8) (ix1 q) := by
  show StableHlo.after hostOps0 (fun b => m (c, b)) (Proc.tc.devRef main_v16) (ix2 0 q) = _
  after_reads_simp
  pointwise
/-- The row that holds the fifth bias. -/
theorem entry17 (q : Fin 1024) : V m c main_v17 (ix2 0 q) = m ((c : Thread nD τ).loc main_arg10) (ix1 q) := by
  show StableHlo.after hostOps0 (fun b => m (c, b)) (Proc.tc.devRef main_v17) (ix2 0 q) = _
  after_reads_simp
  pointwise
/-- The row that holds the sixth bias. -/
theorem entry18 (q : Fin 768) : V m c main_v18 (ix2 0 q) = m ((c : Thread nD τ).loc main_arg12) (ix1 q) := by
  show StableHlo.after hostOps0 (fun b => m (c, b)) (Proc.tc.devRef main_v18) (ix2 0 q) = _
  after_reads_simp
  pointwise
/-- The row that holds the first shape parameter. -/
theorem entry19 (q : Fin 64) : V m c main_v19 (ix2 0 q) = m ((c : Thread nD τ).loc main_arg17) (ix1 q) := by
  show StableHlo.after hostOps0 (fun b => m (c, b)) (Proc.tc.devRef main_v19) (ix2 0 q) = _
  after_reads_simp
  pointwise
/-- The row that holds the second shape parameter. -/
theorem entry20 (q : Fin 64) : V m c main_v20 (ix2 0 q) = m ((c : Thread nD τ).loc main_arg18) (ix1 q) := by
  show StableHlo.after hostOps0 (fun b => m (c, b)) (Proc.tc.devRef main_v20) (ix2 0 q) = _
  after_reads_simp
  pointwise

/-- Page 0 of the stacked codebooks. -/
theorem entry4_0 (k : Fin 256) (q : Fin 64) : V m c main_v4 (ix3 0 k q) = m ((c : Thread nD τ).loc main_arg13) (ix2 k q) := by
  show StableHlo.after hostOps0 (fun b => m (c, b)) (Proc.tc.devRef main_v4) (ix3 0 k q) = _
  after_reads_simp
  pointwise
  rw [StableHlo.unary_result]
  pointwise
  rfl
/-- Page 1 of the stacked codebooks. -/
theorem entry4_1 (k : Fin 256) (q : Fin 64) : V m c main_v4 (ix3 1 k q) = m ((c : Thread nD τ).loc main_arg14) (ix2 k q) := by
  show StableHlo.after hostOps0 (fun b => m (c, b)) (Proc.tc.devRef main_v4) (ix3 1 k q) = _
  after_reads_simp
  pointwise
  rw [StableHlo.unary_result]
  pointwise
  rfl
/-- Page 2 of the stacked codebooks. -/
theorem entry4_2 (k : Fin 256) (q : Fin 64) : V m c main_v4 (ix3 2 k q) = m ((c : Thread nD τ).loc main_arg15) (ix2 k q) := by
  show StableHlo.after hostOps0 (fun b => m (c, b)) (Proc.tc.devRef main_v4) (ix3 2 k q) = _
  after_reads_simp
  pointwise
  rw [StableHlo.unary_result]
  pointwise
  rfl
/-- Page 3 of the stacked codebooks. -/
theorem entry4_3 (k : Fin 256) (q : Fin 64) : V m c main_v4 (ix3 3 k q) = m ((c : Thread nD τ).loc main_arg16) (ix2 k q) := by
  show StableHlo.after hostOps0 (fun b => m (c, b)) (Proc.tc.devRef main_v4) (ix3 3 k q) = _
  after_reads_simp
  pointwise
  rw [StableHlo.unary_result]
  pointwise
  rfl

/-! A page of the stack is a codebook. -/

/-- Page 0, as the body loads it, is codebook 0. -/
theorem page0_at (t : Fin cfg0.N) (k : Fin 256) (q : Fin 64) :
    page0 m c t (ix3 0 k q) = m ((c : Thread nD τ).loc main_arg13) (ix2 k q) := by
  rw [page0, View.ld_unit_apply_of _ _ _ _ _ (ix3 0 k q : S4x256x64.Idx) (by
    intro a
    match a with
    | 0 => rfl
    | 1 => exact (Nat.zero_add _).symm
    | 2 => exact (Nat.zero_add _).symm)]
  refine Eq.trans (b := V m c main_v4 (ix3 0 k q)) ?_ (entry4_0 m c k q)
  blk_ext [iblk, at13 t]

/-- Page 1, as the body loads it, is codebook 1. -/
theorem page1_at (t : Fin cfg0.N) (k : Fin 256) (q : Fin 64) :
    page1 m c t (ix3 0 k q) = m ((c : Thread nD τ).loc main_arg14) (ix2 k q) := by
  rw [page1, View.ld_unit_apply_of _ _ _ _ _ (ix3 1 k q : S4x256x64.Idx) (by
    intro a
    match a with
    | 0 => rfl
    | 1 => exact (Nat.zero_add _).symm
    | 2 => exact (Nat.zero_add _).symm)]
  refine Eq.trans (b := V m c main_v4 (ix3 1 k q)) ?_ (entry4_1 m c k q)
  blk_ext [iblk, at13 t]

/-- Page 2, as the body loads it, is codebook 2. -/
theorem page2_at (t : Fin cfg0.N) (k : Fin 256) (q : Fin 64) :
    page2 m c t (ix3 0 k q) = m ((c : Thread nD τ).loc main_arg15) (ix2 k q) := by
  rw [page2, View.ld_unit_apply_of _ _ _ _ _ (ix3 2 k q : S4x256x64.Idx) (by
    intro a
    match a with
    | 0 => rfl
    | 1 => exact (Nat.zero_add _).symm
    | 2 => exact (Nat.zero_add _).symm)]
  refine Eq.trans (b := V m c main_v4 (ix3 2 k q)) ?_ (entry4_2 m c k q)
  blk_ext [iblk, at13 t]

/-- Page 3, as the body loads it, is codebook 3. -/
theorem page3_at (t : Fin cfg0.N) (k : Fin 256) (q : Fin 64) :
    page3 m c t (ix3 0 k q) = m ((c : Thread nD τ).loc main_arg16) (ix2 k q) := by
  rw [page3, View.ld_unit_apply_of _ _ _ _ _ (ix3 3 k q : S4x256x64.Idx) (by
    intro a
    match a with
    | 0 => rfl
    | 1 => exact (Nat.zero_add _).symm
    | 2 => exact (Nat.zero_add _).symm)]
  refine Eq.trans (b := V m c main_v4 (ix3 3 k q)) ?_ (entry4_3 m c k q)
  blk_ext [iblk, at13 t]

/-- The blocks of point `t` hold the arguments at the rows of point `t`. -/
theorem holds (t : Fin cfg0.N) :
    Holds (args m c) (rowOf t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t)
      (page0 m c t) (page1 m c t) (page2 m c t) (page3 m c t) (iblk m c 14 t) (iblk m c 15 t) := by
  constructor
  · intro p; funext q
    show iblk m c 0 t (ix2 p q) = m ((c : Thread nD τ).loc main_arg0) (ix2 (rowOf t p) q)
    unfold rowOf
    blk_point [iblk, at0 t]
  · funext p q
    show iblk m c 1 t (ix2 p q) = m ((c : Thread nD τ).loc main_arg1) (ix2 p q)
    blk_point [iblk, at1 t]
  · funext q
    show iblk m c 2 t (ix2 0 q) = _
    refine Eq.trans (b := V m c main_v13 (ix2 0 q)) ?_ (entry13 m c q)
    blk_point [iblk, at2 t]
  · funext p q
    show iblk m c 3 t (ix2 p q) = m ((c : Thread nD τ).loc main_arg3) (ix2 p q)
    blk_point [iblk, at3 t]
  · funext q
    show iblk m c 4 t (ix2 0 q) = _
    refine Eq.trans (b := V m c main_v14 (ix2 0 q)) ?_ (entry14 m c q)
    blk_point [iblk, at4 t]
  · funext p q
    show iblk m c 5 t (ix2 p q) = m ((c : Thread nD τ).loc main_arg5) (ix2 p q)
    blk_point [iblk, at5 t]
  · funext q
    show iblk m c 6 t (ix2 0 q) = _
    refine Eq.trans (b := V m c main_v15 (ix2 0 q)) ?_ (entry15 m c q)
    blk_point [iblk, at6 t]
  · funext p q
    show iblk m c 7 t (ix2 p q) = m ((c : Thread nD τ).loc main_arg7) (ix2 p q)
    blk_point [iblk, at7 t]
  · funext q
    show iblk m c 8 t (ix2 0 q) = _
    refine Eq.trans (b := V m c main_v16 (ix2 0 q)) ?_ (entry16 m c q)
    blk_point [iblk, at8 t]
  · funext p q
    show iblk m c 9 t (ix2 p q) = m ((c : Thread nD τ).loc main_arg9) (ix2 p q)
    blk_point [iblk, at9 t]
  · funext q
    show iblk m c 10 t (ix2 0 q) = _
    refine Eq.trans (b := V m c main_v17 (ix2 0 q)) ?_ (entry17 m c q)
    blk_point [iblk, at10 t]
  · funext p q
    show iblk m c 11 t (ix2 p q) = m ((c : Thread nD τ).loc main_arg11) (ix2 p q)
    blk_point [iblk, at11 t]
  · funext q
    show iblk m c 12 t (ix2 0 q) = _
    refine Eq.trans (b := V m c main_v18 (ix2 0 q)) ?_ (entry18 m c q)
    blk_point [iblk, at12 t]
  · funext k q
    show page0 m c t (ix3 0 k q) = _
    exact page0_at m c t k q
  · funext k q
    show page1 m c t (ix3 0 k q) = _
    exact page1_at m c t k q
  · funext k q
    show page2 m c t (ix3 0 k q) = _
    exact page2_at m c t k q
  · funext k q
    show page3 m c t (ix3 0 k q) = _
    exact page3_at m c t k q
  · funext q
    show iblk m c 14 t (ix2 0 q) = _
    refine Eq.trans (b := V m c main_v19 (ix2 0 q)) ?_ (entry19 m c q)
    blk_point [iblk, at14 t]
  · funext q
    show iblk m c 15 t (ix2 0 q) = _
    refine Eq.trans (b := V m c main_v20 (ix2 0 q)) ?_ (entry20 m c q)
    blk_point [iblk, at15 t]

end Cert.Vq.K

end
-- ==== Proof.KernelValue.lean ====
/-
  The kernel's four output arrays after the launch, and its three results after the host's last lines.
-/
module

public import proofs.«01_k».proof.Proof.KernelHolds

@[expose] public section

set_option maxRecDepth 16384

noncomputable section

open Idealize.ShloMosaic Idealize.ShloMosaic.TcCoe Idealize.SL.Sem
open Cert.KernelIdeal Cert.KernelIdeal.Gen

namespace Cert.Vq.K

variable (m : (ℓ : Loc nD τ sig) → Buf (Elt Ideal) ℓ) (c : Dev nD)

/-- The squashed block of point `t`. -/
abbrev r0At (t : Fin cfg0.N) : FVec Ideal S2048x64 .f32 :=
  r0B (iblk m c 0 t) (iblk m c 1 t) (iblk m c 2 t) (iblk m c 3 t) (iblk m c 4 t) (iblk m c 5 t) (iblk m c 6 t) (iblk m c 14 t) (iblk m c 15 t)

/-- The decoded block a point stores, at either kind of point. -/
theorem out_point (t : Fin cfg0.N) (y : S2048x768.Idx) :
    (outsAt0 m c t.val t.isLt).1 y
      = outB (r0At m c t) (aB (iblk m c 14 t)) (bB (iblk m c 15 t)) (page0 m c t) (page1 m c t) (page2 m c t) (page3 m c t)
          (iblk m c 7 t) (iblk m c 8 t) (iblk m c 9 t) (iblk m c 10 t) (iblk m c 11 t) (iblk m c 12 t) y := by
  by_cases h : t.val % 8 = 0
  · rw [outsAt0_A m c t h]; frame_out; rfl
  · rw [outsAt0_B m c t h]; frame_out; rfl

/-- One row of the stored code numbers. -/
theorem idx_piece (A : Args) (ρ : Fin 2048 → Fin 16384) (s : Fin 4) (v : IVec S2048 32) (k : Fin 16384 → Fin 256) (hk : ∀ i, A.idx i s = k i)
    (hv : ∀ p, v (ix1 p) = BitVec.ofNat 32 (k (ρ p) : ℕ)) (x : S1x2048.Idx) (y : S4x2048.Idx) (h0 : (y 0 : ℕ) = s) (h1 : (y 1 : ℕ) = x 1) :
    k0_pay14 v x = BitVec.ofNat 32 (A.idx (ρ (y 1)) (y 0) : ℕ) := by
  have e0 : (y 0 : Fin 4) = s := Fin.ext h0
  have e1 : (y 1 : Fin 2048) = x 1 := Fin.ext h1
  rw [e0, e1, hk]
  refine Eq.trans ?_ (hv (x 1))
  pointwise [k0_pay14]

/-- The code numbers a point stores. -/
theorem idx_point (G : Fine (args m c)) (t : Fin cfg0.N) (y : S4x2048.Idx) :
    (outsAt0 m c t.val t.isLt).2.1 y = BitVec.ofNat 32 ((args m c).idx (rowOf t (y 1)) (y 0) : ℕ) := by
  have H := holds m c t
  by_cases h : t.val % 8 = 0
  · rw [outsAt0_A m c t h]; frame_out
    canon_tiles x h
    case piece0 => exact idx_piece (args m c) (rowOf t) 3 _ _ (fun _ => rfl) (k3B_at H G) x y (by simp; omega) h1
    case piece1 => exact idx_piece (args m c) (rowOf t) 2 _ _ (fun _ => rfl) (k2B_at H G) x y (by simp; omega) h1
    case piece2 => exact idx_piece (args m c) (rowOf t) 1 _ _ (fun _ => rfl) (k1B_at H G) x y (by simp; omega) h1
    case piece3 => exact idx_piece (args m c) (rowOf t) 0 _ _ (fun _ => rfl) (k0B_at H G) x y (by simp; omega) h1
  · rw [outsAt0_B m c t h]; frame_out
    canon_tiles x h
    case piece0 => exact idx_piece (args m c) (rowOf t) 3 _ _ (fun _ => rfl) (k3B_at H G) x y (by simp; omega) h1
    case piece1 => exact idx_piece (args m c) (rowOf t) 2 _ _ (fun _ => rfl) (k2B_at H G) x y (by simp; omega) h1
    case piece2 => exact idx_piece (args m c) (rowOf t) 1 _ _ (fun _ => rfl) (k1B_at H G) x y (by simp; omega) h1
    case piece3 => exact idx_piece (args m c) (rowOf t) 0 _ _ (fun _ => rfl) (k0B_at H G) x y (by simp; omega) h1

/-- The decoded array after the launch. -/
theorem out_arr (G : Fine (args m c)) :
    (dats m 0 c).arrAt 16 (cfgs 0).N = fun j : S16384x768.Idx => (args m c).out (j 0) (j 1) := by
  have idx : ∀ t : Fin cfg0.N, win0_16.index t = ![t.val, 0] := (by decide +kernel : ∀ t : Fin grid0.N, _)
  refine (dats m 0 c).arrAt_eq_of_covers 16 _ (by decide +kernel) fun t hf y => ?_
  blk_simp
  rw [after0_16]
  have e0 : ((win0_16.blk t).view.emb y 0 : Fin 16384) = rowOf t (y 0) := Fin.ext (by
    blk_simp [idx t]
    exact congrArg (· + _) (Nat.mul_comm _ _))
  have e1 : ((win0_16.blk t).view.emb y 1 : Fin 768) = y 1 := Fin.ext (by
    blk_simp [idx t] <;> try omega)
  refine (out_point m c t y).trans ?_
  refine Eq.trans ?_ ((outB_at (holds m c t) G (y 0) (y 1)).trans ?_)
  · exact congrArg _ (ix2_eta y).symm
  · exact (congrArg₂ (args m c).out e0 e1).symm

/-- The code numbers after the launch. -/
theorem idx_arr (G : Fine (args m c)) :
    (dats m 0 c).arrAt 17 (cfgs 0).N = fun j : S4x16384.Idx => BitVec.ofNat 32 ((args m c).idx (j 1) (j 0) : ℕ) := by
  have idx : ∀ t : Fin cfg0.N, win0_17.index t = ![0, t.val] := (by decide +kernel : ∀ t : Fin grid0.N, _)
  refine (dats m 0 c).arrAt_eq_of_covers 17 _ (by decide +kernel) fun t hf y => ?_
  blk_simp
  rw [after0_17]
  have e0 : ((win0_17.blk t).view.emb y 0 : Fin 4) = y 0 := Fin.ext (by
    blk_simp [idx t] <;> try omega)
  have e1 : ((win0_17.blk t).view.emb y 1 : Fin 16384) = rowOf t (y 1) := Fin.ext (by
    blk_simp [idx t]
    exact congrArg (· + _) (Nat.mul_comm _ _))
  refine (idx_point m c G t y).trans ?_
  exact (congrArg (fun k : Fin 256 => BitVec.ofNat 32 (k : ℕ)) (congrArg₂ (args m c).idx e1 e0)).symm

/-- Point `t`'s share of the codebook loss, before scaling. -/
def rqTerm (A : Args) (ρ : Fin 2048 → Fin 16384) : EReal :=
  (∑ p, ∑ q, A.r1 (ρ p) q * A.r1 (ρ p) q) + (∑ p, ∑ q, A.r2 (ρ p) q * A.r2 (ρ p) q)
    + (∑ p, ∑ q, A.r3 (ρ p) q * A.r3 (ρ p) q) + ∑ p, ∑ q, A.r4 (ρ p) q * A.r4 (ρ p) q

/-- What a point adds to the first loss cell. -/
theorem pay1_at (s v : EReal) : k0_pay1 (F := Ideal) s v = v + s * Ideal.ofBits .f32 0x34A00000#32 := rfl
/-- What a point adds to the second loss cell. -/
theorem pay2_at (s v : EReal) : k0_pay2 (F := Ideal) s v = v + s * Ideal.ofBits .f32 0x35800000#32 := rfl

/-- The zero fill. -/
theorem zero_bits : FloatOps.ofBits (F := Ideal) .f32 0x00000000#32 = (0 : EReal) := by
  pointwise

/-- A one-entry array reads the same at any two places. -/
theorem one_read (X : S1x1.Idx → EReal) (i j : S1x1.Idx) : X i = X j :=
  congrArg X (funext fun a => by
    match a with
    | 0 => exact Subsingleton.elim (α := Fin 1) _ _
    | 1 => exact Subsingleton.elim (α := Fin 1) _ _)

/-- A load from a one-entry array reads its entry. -/
theorem ld_one (X : Vec Ideal S1x1 .f32) (r : Rect S1x1) (i : r.shape.Idx) (j : S1x1.Idx) : View.ld X r i = X j :=
  one_read X _ j

/-- The codebook loss after the launch. -/
theorem rq_arr (G : Fine (args m c)) :
    (dats m 0 c).arrAt 18 (cfgs 0).N
      = fun _ : S1x1.Idx => ∑ t : Fin cfg0.N, rqTerm (args m c) (rowOf t) * Ideal.ofBits .f32 0x34A00000#32 := by
  refine (dats m 0 c).arrAt_eq_of_after_last 18 t0_7 (by decide +kernel) _ fun j => ?_
  blk_simp
  rw [after0_18, Pipeline.eq_sum_fin_of_reset_step_apply_last (fun n h => (outsAt0 m c n h).2.2.1) 8 (fun _ => 0)
    (fun p j => rqTerm (args m c) (rowOf p) * Ideal.ofBits .f32 0x34A00000#32)
    (fun t h j => by
      rw [outsAt0_A m c t h]; frame_out
      exact (pay1_at _ _).trans (congrArg₂ (fun a b : EReal => a + b * Ideal.ofBits .f32 0x34A00000#32) zero_bits (sumB_val (holds m c t) G)))
    (fun t h j => by
      rw [outsAt0_B m c t h]; frame_out
      exact (pay1_at _ _).trans (congrArg₂ (fun a b : EReal => a + b * Ideal.ofBits .f32 0x34A00000#32) (ld_one _ _ _ j) (sumB_val (holds m c t) G)))
    (le_of_eq N_0) t0_7 rfl j, zero_add]

/-- The round-trip loss after the launch. -/
theorem nvq_arr (G : Fine (args m c)) :
    (dats m 0 c).arrAt 19 (cfgs 0).N
      = fun _ : S1x1.Idx => ∑ t : Fin cfg0.N, (∑ p, ∑ q, (args m c).nv (rowOf t p) q) * Ideal.ofBits .f32 0x35800000#32 := by
  refine (dats m 0 c).arrAt_eq_of_after_last 19 t0_7 (by decide +kernel) _ fun j => ?_
  blk_simp
  rw [after0_19, Pipeline.eq_sum_fin_of_reset_step_apply_last (fun n h => (outsAt0 m c n h).2.2.2) 8 (fun _ => 0)
    (fun t j => (∑ p, ∑ q, (args m c).nv (rowOf t p) q) * Ideal.ofBits .f32 0x35800000#32)
    (fun t h j => by
      rw [outsAt0_A m c t h]; frame_out
      exact (pay2_at _ _).trans (congrArg₂ (fun a b : EReal => a + b * Ideal.ofBits .f32 0x35800000#32) zero_bits (nvB_val (holds m c t) G)))
    (fun t h j => by
      rw [outsAt0_B m c t h]; frame_out
      exact (pay2_at _ _).trans (congrArg₂ (fun a b : EReal => a + b * Ideal.ofBits .f32 0x35800000#32) (ld_one _ _ _ j) (nvB_val (holds m c t) G)))
    (le_of_eq N_0) t0_7 rfl j, zero_add]

end Cert.Vq.K

end
-- ==== Proof.KernelResult.lean ====
/-
  The kernel's three results after the host's last lines: the decoded rows, the sum of the two losses, and the code
  numbers with rows and stages exchanged.
-/
module

public import proofs.«01_k».proof.Proof.KernelValue
public import Idealize.ShloMosaic.Lib.StableHlo.RunRead

@[expose] public section

set_option maxRecDepth 16384

noncomputable section

open Idealize.ShloMosaic Idealize.ShloMosaic.TcCoe Idealize.SL.Sem
open Cert.KernelIdeal Cert.KernelIdeal.Gen

namespace Cert.Vq.K

variable (m : (ℓ : Loc nD τ sig) → Buf (Elt Ideal) ℓ) (c : Dev nD)

/-- The sum of the two losses as the kernel adds it up, tile by tile. -/
def lossSum (A : Args) : EReal :=
  (∑ t : Fin cfg0.N, rqTerm A (rowOf t) * Ideal.ofBits .f32 0x34A00000#32)
    + ∑ t : Fin cfg0.N, (∑ p, ∑ q, A.nv (rowOf t p) q) * Ideal.ofBits .f32 0x35800000#32

/-- What the region leaves in its arrays, over the contents it started from. -/
abbrev exitV : Valuation τ sig (Elt Ideal) :=
  Pipeline.withArrays (cfgs 0).spec c (V0 m c) fun w => (dats m 0 c).arrAt w (cfgs 0).N

/-- The region's exit contents of the array of window `w`. -/
theorem exit_arr (w : Fin (cfgs 0).W) :
    exitV m c (Proc.devRef .tc (Pipeline.arrRef (cfgs 0).spec w)) = (dats m 0 c).arrAt w (cfgs 0).N :=
  Pipeline.withArrays_arr (cfgs 0).spec winFacts0.arr_inj c (V0 m c) _ w

/-- The last lines leave the sum of the two loss scalars. -/
theorem tail_loss (G : Fine (args m c)) :
    Pipeline.afterTail₀ cfgs (dats m) 0 (V0 m) [hostOps1] c main_v24 = fun _ => lossSum (args m c) := by
  show StableHlo.after hostOps1 (exitV m c) (Proc.devRef .tc main_v24) = _
  funext i
  after_reads_simp
  rw [show exitV m c (Proc.devRef .tc main_v21_2) = _ from (exit_arr m c 18).trans (rq_arr m c G),
    show exitV m c (Proc.devRef .tc main_v21_3) = _ from (exit_arr m c 19).trans (nvq_arr m c G)]
  rfl

/-- The last lines leave the code numbers, one row of four per row of the input. -/
theorem tail_idx (G : Fine (args m c)) :
    Pipeline.afterTail₀ cfgs (dats m) 0 (V0 m) [hostOps1] c main_v25
      = fun j : S16384x4.Idx => BitVec.ofNat 32 ((args m c).idx (j 0) (j 1) : ℕ) := by
  show StableHlo.after hostOps1 (exitV m c) (Proc.devRef .tc main_v25) = _
  after_reads_simp
  rw [show exitV m c (Proc.devRef .tc main_v21_1) = _ from (exit_arr m c 17).trans (idx_arr m c G)]
  funext j
  pointwise

variable (ρ : Dev nD → PrngReg)

/-- The kernel's run ends with its three results at the specification and its arguments as they were. -/
theorem run_results (G : ∀ c, Fine (args m c)) :
    θ_run (defs (F := Ideal)) (onTc (τ := τ) (main (F := Ideal))) ⟨m, fun _ => 0, ρ⟩ (fun r => ∀ c : Dev nD,
      r.2.mem ((c.tc : Thread nD τ).loc main_v21_0) = (fun j : S16384x768.Idx => (args m c).out (j 0) (j 1))
      ∧ r.2.mem ((c.tc : Thread nD τ).loc main_v24) = (fun _ => lossSum (args m c))
      ∧ r.2.mem ((c.tc : Thread nD τ).loc main_v25) = (fun j : S16384x4.Idx => BitVec.ofNat 32 ((args m c).idx (j 0) (j 1) : ℕ))) :=
  (θ_run defs _ _).mono (fun r h c =>
    ⟨((h c).1 16).trans (out_arr m c (G c)),
      ((h c).2 main_v24 (Pipeline.mem_restRefs_of main_v24 (by decide) (by decide))).trans (tail_loss m c (G c)),
      ((h c).2 main_v25 (Pipeline.mem_restRefs_of main_v25 (by decide) (by decide))).trans (tail_idx m c (G c))⟩)
    (run_main m ρ)

end Cert.Vq.K

end
-- ==== Proof.RefMath.lean ====
/-
  The numeric facts the reference's operations need: its argmin as a running lexicographic minimum, its powers of a
  positive base, its softplus, and its means.
-/
module

public import proofs.«01_k».proof.Proof.Spec
public import proofs.«01_k».proof.Proof.Code

@[expose] public section

noncomputable section

open Idealize.ShloMosaic

namespace Cert.Vq

/-- The order of the running minimum: by value, and at one value by position. -/
def Before (p q : EReal × BitVec 32) : Prop := p.1 < q.1 ∨ (p.1 = q.1 ∧ p.2.toInt ≤ q.2.toInt)

/-- An entry comes no later than itself. -/
theorem Before.rfl {p : EReal × BitVec 32} : Before p p := .inr ⟨Eq.refl _, le_rfl⟩

/-- The order of entries is transitive. -/
theorem Before.trans {p q r : EReal × BitVec 32} (h : Before p q) (h' : Before q r) : Before p r := by
  rcases h with h | ⟨h, h₁⟩ <;> rcases h' with h' | ⟨h', h₂⟩
  · exact .inl (h.trans h')
  · exact .inl (h' ▸ h)
  · exact .inl (h ▸ h')
  · exact .inr ⟨h.trans h', h₁.trans h₂⟩

/-- A fold of a function that always keeps an earlier one of its two operands ends at an earliest entry. -/
theorem foldl_before (f : EReal × BitVec 32 → EReal × BitVec 32 → EReal × BitVec 32)
    (hf : ∀ a b, (f a b = a ∨ f a b = b) ∧ Before (f a b) a ∧ Before (f a b) b) (l : List (EReal × BitVec 32)) (p : EReal × BitVec 32) :
    (l.foldl f p = p ∨ l.foldl f p ∈ l) ∧ Before (l.foldl f p) p ∧ ∀ q ∈ l, Before (l.foldl f p) q := by
  induction l generalizing p with
  | nil => exact ⟨.inl rfl, .rfl, fun q h => absurd h List.not_mem_nil⟩
  | cons b l ih =>
    obtain ⟨hm, hp, hl⟩ := ih (f p b)
    obtain ⟨he, h1, h2⟩ := hf p b
    refine ⟨?_, hp.trans h1, fun q hq => ?_⟩
    · rcases hm with hm | hm
      · rcases he with he | he
        · exact .inl (hm.trans he)
        · exact .inr (List.mem_cons.mpr (.inl (hm.trans he)))
      · exact .inr (List.mem_cons_of_mem _ hm)
    · rcases List.mem_cons.mp hq with rfl | hq
      · exact hp.trans h2
      · exact hl q hq

/-- Such a fold over the 256 entries and their positions, from plus infinity at position zero, ends at the code. -/
theorem foldl_code (f : EReal × BitVec 32 → EReal × BitVec 32 → EReal × BitVec 32)
    (hf : ∀ a b, (f a b = a ∨ f a b = b) ∧ Before (f a b) a ∧ Before (f a b) b) (d : Fin 256 → EReal) (l : List (EReal × BitVec 32))
    (hl : ∀ p ∈ l, ∃ k : Fin 256, p = (d k, BitVec.ofNat 32 (k : ℕ))) (hall : ∀ k : Fin 256, (d k, BitVec.ofNat 32 (k : ℕ)) ∈ l) :
    (l.foldl f (⊤, 0#32)).2 = BitVec.ofNat 32 (code d : ℕ) := by
  obtain ⟨hm, hp, hq⟩ := foldl_before f hf l (⊤, 0#32)
  generalize l.foldl f (⊤, 0#32) = r at hm hp hq
  rcases hm with rfl | hm
  · have htop : ∀ j, d j = ⊤ := fun j => by
      rcases hq _ (hall j) with h | ⟨h, -⟩
      · exact absurd h not_top_lt
      · exact h.symm
    have : IsCode d 0 := ⟨fun j => by rw [htop, htop], fun j _ => Fin.zero_le j⟩
    rw [← this.eq_code]; rfl
  · obtain ⟨k, rfl⟩ := hl r hm
    have : IsCode d k := ⟨fun j => (hq _ (hall j)).elim le_of_lt fun h => le_of_eq h.1, fun j hj => by
      rcases hq _ (hall j) with h | ⟨-, h⟩
      · exact absurd h (by rw [hj]; exact lt_irrefl _)
      · simp only [toInt_pos] at h; exact_mod_cast h⟩
    rw [← this.eq_code]

/-- The exponential of minus infinity. -/
theorem exp_bot : Ideal.exp ⊥ = 0 := rfl
/-- The exponential of plus infinity. -/
theorem exp_top : Ideal.exp ⊤ = ⊤ := rfl
/-- The exponential of a real. -/
theorem exp_coe (y : ℝ) : Ideal.exp (y : EReal) = ((Real.exp y : ℝ) : EReal) := rfl
/-- The logarithm of plus infinity. -/
theorem log_top : Ideal.log ⊤ = ⊤ := rfl
/-- The logarithm of a positive real. -/
theorem log_coe (y : ℝ) (h : 0 < y) : Ideal.log (y : EReal) = ((Real.log y : ℝ) : EReal) :=
  if_neg (not_le.mpr h)
/-- A power of two reals. -/
theorem pow_coe (x y : ℝ) : Ideal.pow (x : EReal) (y : EReal) = ((x ^ y : ℝ) : EReal) := rfl
/-- A power with exponent plus infinity. -/
theorem pow_top (x : ℝ) : Ideal.pow (x : EReal) ⊤ = if x < 0 then ⊥ else if 1 < x then ⊤ else if x = 1 then 1 else 0 := rfl
/-- A power with exponent minus infinity. -/
theorem pow_bot (x : ℝ) : Ideal.pow (x : EReal) ⊥ = if x < 0 then ⊥ else if 1 < x then 0 else if x = 1 then 1 else ⊤ := rfl
/-- The larger of two reals, as an extended real. -/
theorem coe_max' (x y : ℝ) : ((max x y : ℝ) : EReal) = max (x : EReal) (y : EReal) := EReal.coe_strictMono.monotone.map_max
/-- The smaller of two reals, as an extended real. -/
theorem coe_min' (x y : ℝ) : ((min x y : ℝ) : EReal) = min (x : EReal) (y : EReal) := EReal.coe_strictMono.monotone.map_min

/-- A power of a positive real base is the exponential of the exponent times the base's logarithm. -/
theorem pow_eq (x : ℝ) (hx : 0 < x) (y : EReal) : Ideal.pow (x : EReal) y = power (x : EReal) y := by
  unfold power
  rw [log_coe x hx]
  induction y using EReal.rec with
  | coe y => rw [← EReal.coe_mul, exp_coe, pow_coe, Real.rpow_def_of_pos hx, mul_comm]
  | top =>
    rw [pow_top, if_neg (not_lt.mpr hx.le)]
    rcases lt_trichotomy x 1 with h | rfl | h
    · rw [EReal.top_mul_coe_of_neg (Real.log_neg hx h), if_neg (not_lt.mpr h.le), if_neg h.ne, exp_bot]
    · rw [Real.log_one, EReal.coe_zero, mul_zero, if_neg (lt_irrefl _), if_pos rfl, ← EReal.coe_zero, exp_coe, Real.exp_zero, EReal.coe_one]
    · rw [EReal.top_mul_coe_of_pos (Real.log_pos h), if_pos h, exp_top]
  | bot =>
    rw [pow_bot, if_neg (not_lt.mpr hx.le)]
    rcases lt_trichotomy x 1 with h | rfl | h
    · rw [EReal.bot_mul_coe_of_neg (Real.log_neg hx h), if_neg (not_lt.mpr h.le), if_neg h.ne, exp_top]
    · rw [Real.log_one, EReal.coe_zero, mul_zero, if_neg (lt_irrefl _), if_pos rfl, ← EReal.coe_zero, exp_coe, Real.exp_zero, EReal.coe_one]
    · rw [EReal.bot_mul_coe_of_pos (Real.log_pos h), if_pos h, exp_bot]

/-- A value clipped from below at the small constant, and from above at a positive real, is a positive real. -/
theorem clip_real (h : ℝ) (hh : 0 < h) (x : EReal) : ∃ r : ℝ, 0 < r ∧ clip eps (h : EReal) x = (r : EReal) := by
  obtain ⟨e, he, -, hE⟩ := eps_real
  unfold clip
  rw [hE]
  induction x using EReal.rec with
  | coe x => exact ⟨min h (max e x), lt_min hh (lt_max_of_lt_left he), by rw [coe_min', coe_max']⟩
  | top => exact ⟨h, hh, by simp⟩
  | bot => exact ⟨min h e, lt_min hh he, by simp [coe_min']⟩

/-- A power whose base is clipped to at most the upper bound. -/
theorem pow_clip_top (x y : EReal) : Ideal.pow (clip eps top1 x) y = power (clip eps top1 x) y := by
  obtain ⟨t, ht, -, hT⟩ := top1_real
  obtain ⟨r, hr, he⟩ := clip_real t (by linarith) x
  rw [hT, he, pow_eq r hr]

/-- A power whose base is clipped to at most one. -/
theorem pow_clip_one (x y : EReal) : Ideal.pow (clip eps 1 x) y = power (clip eps 1 x) y := by
  obtain ⟨r, hr, he⟩ := clip_real 1 one_pos x
  rw [EReal.coe_one] at he
  rw [he, pow_eq r hr]

/-- The guarded softplus is `log (1 + e ^ x)`. -/
theorem soft_eq (x : EReal) : max x 0 + Ideal.log (1 + Ideal.exp (-(max (x - 0) (-(x - 0))))) = Ideal.log (1 + Ideal.exp x) := by
  rw [sub_zero]
  induction x using EReal.rec with
  | top => simp [exp_top, exp_bot, log_top, EReal.top_add_coe, ← EReal.coe_one, log_coe 1 one_pos]
  | bot => simp [exp_bot, ← EReal.coe_one, log_coe 1 one_pos]
  | coe x =>
    have hm : max ((x : ℝ) : EReal) (-(x : EReal)) = ((max x (-x) : ℝ) : EReal) := by
      rw [coe_max', EReal.coe_neg]
    have hlog : ∀ y : ℝ, Ideal.log (1 + ((Real.exp y : ℝ) : EReal)) = ((Real.log (1 + Real.exp y) : ℝ) : EReal) := fun y => by
      rw [← EReal.coe_one, ← EReal.coe_add, log_coe _ (by positivity)]
    rw [hm, ← EReal.coe_neg, exp_coe, exp_coe, hlog, hlog, ← EReal.coe_zero, ← coe_max', ← EReal.coe_add]
    congr 1
    rcases le_total 0 x with h | h
    · rw [max_eq_left h, max_eq_left (by linarith)]
      rw [show 1 + Real.exp x = Real.exp x * (1 + Real.exp (-x)) by
        rw [mul_add, mul_one, ← Real.exp_add, add_neg_cancel, Real.exp_zero, add_comm]]
      rw [Real.log_mul (Real.exp_pos x).ne' (by positivity), Real.log_exp]
    · rw [max_eq_right h, max_eq_right (by linarith), neg_neg, zero_add]

/-- Dividing by a positive real is multiplying by its reciprocal. -/
theorem div_real (S : EReal) (n : ℝ) (hn : 0 < n) : Ideal.div S (n : EReal) = S * ((n⁻¹ : ℝ) : EReal) := by
  have : (n : EReal) ≠ 0 := by exact_mod_cast hn.ne'
  unfold Ideal.div
  rw [if_neg this, EReal.coe_inv]

/-- A sum of nonnegative terms, each times one nonnegative real. -/
theorem sum_mul_real {ι : Type} (s : Finset ι) (f : ι → EReal) (hf : ∀ i, 0 ≤ f i) (c : EReal) :
    ∑ i ∈ s, f i * c = (∑ i ∈ s, f i) * c := by
  classical
  induction s using Finset.induction_on with
  | empty => simp
  | insert a s ha ih =>
    rw [Finset.sum_insert ha, Finset.sum_insert ha, ih,
      EReal.right_distrib_of_nonneg (hf a) (Finset.sum_nonneg fun i _ => hf i)]

/-- A mean of squares, plus a quarter of it. -/
def loss (S : EReal) : EReal :=
  Ideal.div S (Ideal.ofBits .f32 0x49800000#32) + Ideal.ofBits .f32 0x3E800000#32 * Ideal.div S (Ideal.ofBits .f32 0x49800000#32)

/-- The weighted mean of a round is one multiple of the sum. -/
theorem loss_eq (S : EReal) : loss S = S * ((5 / 4194304 : ℝ) : EReal) := by
  unfold loss
  rw [ofBits_count, ofBits_quarter, div_real S _ (by norm_num), mul_left_comm, ← EReal.coe_mul,
    ← EReal.left_distrib_of_nonneg (by exact_mod_cast (by norm_num)) (by exact_mod_cast (by norm_num)), ← EReal.coe_add]
  norm_num

/-- The mean of four losses is the sum of the four sums, scaled once. -/
theorem mean_loss (S₁ S₂ S₃ S₄ : EReal) (h₁ : 0 ≤ S₁) (h₂ : 0 ≤ S₂) (h₃ : 0 ≤ S₃) (h₄ : 0 ≤ S₄) :
    Ideal.div (loss S₁ + loss S₂ + loss S₃ + loss S₄) (Ideal.ofBits .f32 0x40800000#32)
      = (S₁ + S₂ + S₃ + S₄) * Ideal.ofBits .f32 0x34A00000#32 := by
  rw [loss_eq, loss_eq, loss_eq, loss_eq, ofBits_four, ofBits_rq, div_real _ _ (by norm_num),
    ← EReal.right_distrib_of_nonneg h₁ h₂, ← EReal.right_distrib_of_nonneg (add_nonneg h₁ h₂) h₃,
    ← EReal.right_distrib_of_nonneg (add_nonneg (add_nonneg h₁ h₂) h₃) h₄, mul_assoc, ← EReal.coe_mul]
  norm_num

/-- A mean over all entries is the sum scaled once. -/
theorem mean_nv (S : EReal) : Ideal.div S (Ideal.ofBits .f32 0x49800000#32) = S * Ideal.ofBits .f32 0x35800000#32 := by
  rw [ofBits_count, ofBits_nvq, div_real _ _ (by norm_num)]
  norm_num

/-- A positive finite constant leaves a sum of products. -/
theorem two_sum {ι : Type} (s : Finset ι) (f g : ι → EReal) :
    ∑ i ∈ s, Ideal.ofBits .f32 0x40000000#32 * f i * g i = Ideal.ofBits .f32 0x40000000#32 * ∑ i ∈ s, f i * g i := by
  classical
  rw [ofBits_two]
  induction s using Finset.induction_on with
  | empty => simp
  | insert a s ha ih =>
    rw [Finset.sum_insert ha, Finset.sum_insert ha, ih, mul_assoc,
      EReal.left_distrib_of_nonneg_of_ne_top (by exact_mod_cast (by norm_num)) (EReal.coe_ne_top _)]

/-- A square does not see the order of a difference. -/
theorem sq_swap (x y : EReal) : (x - y) * (x - y) = (y - x) * (y - x) := by
  induction x using EReal.rec <;> induction y using EReal.rec
  case coe.coe x y => rw [← EReal.coe_sub, ← EReal.coe_sub, ← EReal.coe_mul, ← EReal.coe_mul]; congr 1; ring
  all_goals simp [sub_eq_add_neg]

/-- A square is not negative. -/
theorem sq_nonneg' (x : EReal) : 0 ≤ x * x := by
  induction x using EReal.rec with
  | coe x => rw [← EReal.coe_mul]; exact_mod_cast mul_self_nonneg x
  | top => simp
  | bot => simp

end Cert.Vq

end
-- ==== Proof.LossSum.lean ====
/-
  The kernel's two running totals, added up tile by tile, as sums over all the rows.
-/
module

public import proofs.«01_k».proof.Proof.KernelResult
public import proofs.«01_k».proof.Proof.RefMath

@[expose] public section

noncomputable section

open Idealize.ShloMosaic Idealize.ShloMosaic.TcCoe
open Cert.KernelIdeal Cert.KernelIdeal.Gen

namespace Cert.Vq.K

/-- The tiles' rows are all the rows, each once. -/
theorem tiles_bijective : Function.Bijective fun x : Fin cfg0.N × Fin 2048 => rowOf x.1 x.2 := by
  have hN : cfg0.N = 8 := N_0
  constructor
  · rintro ⟨t, p⟩ ⟨t', p'⟩ h
    have h' : 2048 * t.val + p.val = 2048 * t'.val + p'.val := congrArg Fin.val h
    have := p.isLt; have := p'.isLt
    exact Prod.ext (Fin.ext (by show t.val = t'.val; omega)) (Fin.ext (by show p.val = p'.val; omega))
  · intro i
    have := i.isLt
    exact ⟨(⟨i.val / 2048, by omega⟩, ⟨i.val % 2048, by omega⟩), Fin.ext (by show 2048 * (i.val / 2048) + i.val % 2048 = i.val; omega)⟩

/-- A sum tile by tile is the sum over all the rows. -/
theorem tiles (f : Fin 16384 → EReal) : ∑ t : Fin cfg0.N, ∑ p : Fin 2048, f (rowOf t p) = ∑ i, f i := by
  rw [← Fintype.sum_prod_type' fun t p => f (rowOf t p)]
  exact tiles_bijective.sum_comp f

/-- A sum of squares is not negative. -/
theorem squares_nonneg {m n : ℕ} (g : Fin m → Fin n → EReal) : 0 ≤ ∑ p, ∑ q, g p q * g p q :=
  Finset.sum_nonneg fun _ _ => Finset.sum_nonneg fun _ _ => sq_nonneg' _

/-- The kernel's loss over all the rows. -/
theorem lossSum_eq (A : Args) : lossSum A = ((∑ i, ∑ q, A.r1 i q * A.r1 i q) + (∑ i, ∑ q, A.r2 i q * A.r2 i q)
    + (∑ i, ∑ q, A.r3 i q * A.r3 i q) + ∑ i, ∑ q, A.r4 i q * A.r4 i q) * Ideal.ofBits .f32 0x34A00000#32
    + (∑ i, ∑ q, A.nv i q) * Ideal.ofBits .f32 0x35800000#32 := by
  unfold lossSum
  rw [sum_mul_real _ (fun t : Fin cfg0.N => rqTerm A (rowOf t)) (fun t => add_nonneg (add_nonneg (add_nonneg
      (squares_nonneg _) (squares_nonneg _)) (squares_nonneg _)) (squares_nonneg _)),
    sum_mul_real _ (fun t : Fin cfg0.N => ∑ p, ∑ q, A.nv (rowOf t p) q)
      (fun t => squares_nonneg fun p q => A.back (A.r0 (rowOf t p)) q - A.z (rowOf t p) q)]
  simp only [rqTerm, Finset.sum_add_distrib]
  rw [tiles fun i => ∑ q, A.r1 i q * A.r1 i q, tiles fun i => ∑ q, A.r2 i q * A.r2 i q, tiles fun i => ∑ q, A.r3 i q * A.r3 i q,
    tiles fun i => ∑ q, A.r4 i q * A.r4 i q, tiles fun i => ∑ q, A.nv i q]

end Cert.Vq.K

end
-- ==== Proof.Precondition.lean ====
/-
  What the precondition says of the arguments the kernel starts from: codes below plus infinity, and shapes of at most 20.
-/
module

public import proofs.«01_k».proof.Defs
public import proofs.«01_k».proof.Proof.Gen.Pre_codes_below_infinity_shapes_small
public import proofs.«01_k».proof.Proof.KernelResult

@[expose] public section

set_option maxRecDepth 16384

noncomputable section

open Idealize.ShloMosaic Idealize.ShloMosaic.TcCoe Idealize.SL.Sem
open Cert.KernelIdeal Cert.KernelIdeal.Gen

namespace Cert.Vq.K

/-- A comparison that came out one held. -/
theorem of_bit (p : Prop) [Decidable p] (h : BitVec.ofBool (decide p) = 1#1) : p := by
  by_contra hp
  rw [decide_eq_false hp] at h
  exact absurd h (by decide)

/-- A codebook that passes the check has no entry that is plus infinity. -/
theorem below_of_check (C : FVec Ideal Cert.Pre_codes_below_infinity_shapes_small.S256x64 .f32)
    (h : cmpf .olt C (broadcastInDim Cert.Pre_codes_below_infinity_shapes_small.S256x64 ![]
      Cert.Pre_codes_below_infinity_shapes_small.Facts.bcast_S_S256x64
      (constant Cert.Pre_codes_below_infinity_shapes_small.S_ .f32 0x7F800000#32)) = fun _ => 1#1) (k : Fin 256) (q : Fin 64) :
    C (ix2 k q) ≠ ⊤ := by
  have h1 : BitVec.ofBool (decide (C (ix2 k q) < Ideal.ofBits .f32 0x7F800000#32)) = 1#1 := congrFun h (ix2 k q)
  exact ne_of_lt (ofBits_inf ▸ of_bit _ h1)

/-- A raw shape that passes the check is at most 20. -/
theorem small_of_check (a : FVec Ideal Cert.Pre_codes_below_infinity_shapes_small.S64 .f32)
    (h : cmpf .ole a (broadcastInDim Cert.Pre_codes_below_infinity_shapes_small.S64 ![]
      Cert.Pre_codes_below_infinity_shapes_small.Facts.bcast_S_S64
      (constant Cert.Pre_codes_below_infinity_shapes_small.S_ .f32 0x41A00000#32)) = fun _ => 1#1) (q : Fin 64) :
    a (ix1 q) ≤ Ideal.ofBits .f32 0x41A00000#32 := by
  have h1 : BitVec.ofBool (decide (a (ix1 q) ≤ Ideal.ofBits .f32 0x41A00000#32)) = 1#1 := congrFun h (ix1 q)
  exact of_bit _ h1

/-- The precondition gives what the kernel's value rests on. -/
theorem fine_of_pre (m : (ℓ : Loc nD τ sig) → Buf (Elt Ideal) ℓ) (h : Cert.Pre_KernelIdeal_codes_below_infinity_shapes_small m) (c : Dev nD) :
    Fine (args m c) where
  f0 := below_of_check _ (h c).1
  f1 := below_of_check _ (h c).2.1
  f2 := below_of_check _ (h c).2.2.1
  f3 := below_of_check _ (h c).2.2.2.1
  ga := small_of_check _ (h c).2.2.2.2.1
  gb := small_of_check _ (h c).2.2.2.2.2

end Cert.Vq.K

end
-- ==== Proof.RefRun.lean ====
/-
  The reference's program as stretches of host operations: each stretch is read off the program, and the whole run ends with
  every buffer at what the stretches, one after the other, leave there.
-/
module

public import proofs.«01_k».proof.Proof.Gen.ReferenceIdeal
public import proofs.«01_k».proof.Proof.Spec
public import Idealize.ShloMosaic.Lib.StableHlo.RunHlo
public import Idealize.ShloMosaic.Lib.StableHlo.RunRead

@[expose] public section

set_option maxRecDepth 65536

noncomputable section

open Idealize.ShloMosaic Idealize.ShloMosaic.TcCoe Idealize.SL.Sem
open Cert.ReferenceIdeal Cert.ReferenceIdeal.Gen

namespace Cert.Vq.R

/-- A host program of the reference's machine. -/
abbrev HostProg := Prog (TpuEff nD τ sig (Elt Ideal) (Pipeline.Sig Λ₀ (Fin 0) fun p => (pcfgs (F := Ideal) p).Adm) .tc) PUnit

/-- A line of host operations of the reference's machine. -/
abbrev Ops := List (HloOp τ sig (Elt Ideal))

/-- `p` starts with the operations `ops` and goes on as `rest`. -/
def Starts (p : HostProg) (ops : Ops) (rest : HostProg) : Prop :=
  ∀ l, StableHlo.IsSeq rest l → StableHlo.IsSeq p (ops ++ l)

/-- Every program starts with no operation. -/
theorem Starts.nil {p : HostProg} : Starts p [] p := fun _ h => h

/-- One more operation in front. -/
theorem Starts.cons {op : HloOp τ sig (Elt Ideal)} {k rest : HostProg} {ops : Ops} (h : Starts k ops rest) :
    Starts ((hlo rfl op fun _ => .ret (⟨⟩ : PUnit)) >>= fun _ => k) (op :: ops) rest :=
  fun l hl => StableHlo.IsSeq.cons (h l hl)

/-- A first stretch of a program, and what remains of it. -/
structure Cut (p : HostProg) where
  /-- The stretch. -/
  ops : Ops
  /-- What remains. -/
  rest : HostProg
  /-- The program is the stretch and then what remains. -/
  starts : Starts p ops rest

/-- An operation that writes one buffer, with a number from `lo` to `hi`, and touches buffers of its own core only. -/
def Within (lo hi : ℕ) (op : HloOp τ sig (Elt Ideal)) : Prop :=
  op.bufs ⊆ StableHlo.tcRefs τ sig ∧ op.fresh = ∅ ∧ ∃ w : Ref sig .tc, op.writes = {Proc.devRef .tc w} ∧ lo ≤ w.idx.val ∧ w.idx.val < hi

/-- No operation at all. -/
theorem all_nil {P : HloOp τ sig (Elt Ideal) → Prop} : ∀ op ∈ ([] : Ops), P op := fun _ h => absurd h List.not_mem_nil

/-- One more operation in front. -/
theorem all_cons {P : HloOp τ sig (Elt Ideal) → Prop} {op : HloOp τ sig (Elt Ideal)} {l : Ops} (h : P op) (hl : ∀ op ∈ l, P op) :
    ∀ o ∈ op :: l, P o := fun o ho => (List.mem_cons.mp ho).elim (fun e => e ▸ h) (hl o)

/-- A buffer numbered outside a stretch's range is left as it was. -/
theorem keep {lo hi : ℕ} {l : Ops} (h : ∀ op ∈ l, Within lo hi op) (r : Ref sig .tc) (hr : r.idx.val < lo ∨ hi ≤ r.idx.val)
    (V : Valuation τ sig (Elt Ideal)) : StableHlo.after l V (Proc.devRef .tc r) = V (Proc.devRef .tc r) :=
  StableHlo.after_of_forall_not_mem l V fun op ho hb => by
    obtain ⟨w, hw, h1, h2⟩ := (h op ho).2.2
    rw [hw, Finset.mem_singleton] at hb
    have := Proc.devRef_injective _ hb
    subst this
    omega

set_option maxHeartbeats 40000000

/-- The encoder. -/
def enc : Cut (main (F := Ideal) 0) := by
  apply Cut.mk
  case starts => iterate 18 apply Starts.cons
                 exact Starts.nil

/-- The two shape parameters, the squashing, and the zeros the sum of codes starts from. -/
def squ : Cut enc.rest := by
  apply Cut.mk
  case starts => iterate 80 apply Starts.cons
                 exact Starts.nil

/-- The first code. -/
def st0 : Cut squ.rest := by
  apply Cut.mk
  case starts => iterate 48 apply Starts.cons
                 exact Starts.nil

/-- The second code. -/
def st1 : Cut st0.rest := by
  apply Cut.mk
  case starts => iterate 48 apply Starts.cons
                 exact Starts.nil

/-- The third code. -/
def st2 : Cut st1.rest := by
  apply Cut.mk
  case starts => iterate 48 apply Starts.cons
                 exact Starts.nil

/-- The fourth code. -/
def st3 : Cut st2.rest := by
  apply Cut.mk
  case starts => iterate 48 apply Starts.cons
                 exact Starts.nil

/-- The quantized rows. -/
def zq : Cut st3.rest := by
  apply Cut.mk
  case starts => iterate 2 apply Starts.cons
                 exact Starts.nil

/-- The four losses, each as a list of one. -/
def m1 : Cut zq.rest := by
  apply Cut.mk
  case starts => iterate 4 apply Starts.cons
                 exact Starts.nil

/-- The mean of the four losses. -/
def m2 : Cut m1.rest := by
  apply Cut.mk
  case starts => iterate 5 apply Starts.cons
                 exact Starts.nil

/-- The code numbers of each round as a column. -/
def m3 : Cut m2.rest := by
  apply Cut.mk
  case starts => iterate 4 apply Starts.cons
                 exact Starts.nil

/-- The four columns side by side. -/
def m4 : Cut m3.rest := by
  apply Cut.mk
  case starts => iterate 1 apply Starts.cons
                 exact Starts.nil

/-- The quantized rows mapped back. -/
def bk1 : Cut m4.rest := by
  apply Cut.mk
  case starts => iterate 89 apply Starts.cons
                 exact Starts.nil

/-- The squashed rows mapped back. -/
def bk0 : Cut bk1.rest := by
  apply Cut.mk
  case starts => iterate 89 apply Starts.cons
                 exact Starts.nil

/-- The loss. -/
def tot : Cut bk0.rest := by
  apply Cut.mk
  case starts => iterate 9 apply Starts.cons
                 exact Starts.nil

/-- The decoder. -/
def dec : Cut tot.rest := by
  apply Cut.mk
  case starts => iterate 18 apply Starts.cons
                 exact Starts.nil

/-- The buffers that the stretch `enc` writes. -/
theorem enc_within : ∀ op ∈ enc.ops, Within 19 37 op := by
  repeat' first | exact all_nil | refine all_cons ⟨by simp, rfl, _, rfl, by decide, by decide⟩ ?_

/-- The buffers that the stretch `squ` writes. -/
theorem squ_within : ∀ op ∈ squ.ops, Within 37 117 op := by
  repeat' first | exact all_nil | refine all_cons ⟨by simp, rfl, _, rfl, by decide, by decide⟩ ?_

/-- The buffers that the stretch `st0` writes. -/
theorem st0_within : ∀ op ∈ st0.ops, Within 117 165 op := by
  repeat' first | exact all_nil | refine all_cons ⟨by simp, rfl, _, rfl, by decide, by decide⟩ ?_

/-- The buffers that the stretch `st1` writes. -/
theorem st1_within : ∀ op ∈ st1.ops, Within 165 213 op := by
  repeat' first | exact all_nil | refine all_cons ⟨by simp, rfl, _, rfl, by decide, by decide⟩ ?_

/-- The buffers that the stretch `st2` writes. -/
theorem st2_within : ∀ op ∈ st2.ops, Within 213 261 op := by
  repeat' first | exact all_nil | refine all_cons ⟨by simp, rfl, _, rfl, by decide, by decide⟩ ?_

/-- The buffers that the stretch `st3` writes. -/
theorem st3_within : ∀ op ∈ st3.ops, Within 261 309 op := by
  repeat' first | exact all_nil | refine all_cons ⟨by simp, rfl, _, rfl, by decide, by decide⟩ ?_

/-- The buffers that the stretch `zq` writes. -/
theorem zq_within : ∀ op ∈ zq.ops, Within 309 311 op := by
  repeat' first | exact all_nil | refine all_cons ⟨by simp, rfl, _, rfl, by decide, by decide⟩ ?_

/-- The buffers that the stretch `m1` writes. -/
theorem m1_within : ∀ op ∈ m1.ops, Within 311 315 op := by
  repeat' first | exact all_nil | refine all_cons ⟨by simp, rfl, _, rfl, by decide, by decide⟩ ?_

/-- The buffers that the stretch `m2` writes. -/
theorem m2_within : ∀ op ∈ m2.ops, Within 315 320 op := by
  repeat' first | exact all_nil | refine all_cons ⟨by simp, rfl, _, rfl, by decide, by decide⟩ ?_

/-- The buffers that the stretch `m3` writes. -/
theorem m3_within : ∀ op ∈ m3.ops, Within 320 324 op := by
  repeat' first | exact all_nil | refine all_cons ⟨by simp, rfl, _, rfl, by decide, by decide⟩ ?_

/-- The buffers that the stretch `m4` writes. -/
theorem m4_within : ∀ op ∈ m4.ops, Within 324 325 op := by
  repeat' first | exact all_nil | refine all_cons ⟨by simp, rfl, _, rfl, by decide, by decide⟩ ?_

/-- The buffers that the stretch `bk1` writes. -/
theorem bk1_within : ∀ op ∈ bk1.ops, Within 325 414 op := by
  repeat' first | exact all_nil | refine all_cons ⟨by simp, rfl, _, rfl, by decide, by decide⟩ ?_

/-- The buffers that the stretch `bk0` writes. -/
theorem bk0_within : ∀ op ∈ bk0.ops, Within 414 503 op := by
  repeat' first | exact all_nil | refine all_cons ⟨by simp, rfl, _, rfl, by decide, by decide⟩ ?_

/-- The buffers that the stretch `tot` writes. -/
theorem tot_within : ∀ op ∈ tot.ops, Within 503 512 op := by
  repeat' first | exact all_nil | refine all_cons ⟨by simp, rfl, _, rfl, by decide, by decide⟩ ?_

/-- The buffers that the stretch `dec` writes. -/
theorem dec_within : ∀ op ∈ dec.ops, Within 512 530 op := by
  repeat' first | exact all_nil | refine all_cons ⟨by simp, rfl, _, rfl, by decide, by decide⟩ ?_

/-- All the operations of the program, in order. -/
def ops : Ops :=
  enc.ops ++ (squ.ops ++ (st0.ops ++ (st1.ops ++ (st2.ops ++ (st3.ops ++ (zq.ops ++ (m1.ops ++ (m2.ops ++ (m3.ops ++ (m4.ops ++ (bk1.ops ++ (bk0.ops
    ++ (tot.ops ++ (dec.ops ++ []))))))))))))))

/-- The program is these operations one after another. -/
theorem main_seq (d : Dev nD) : StableHlo.IsSeq (main (F := Ideal) d) ops :=
  enc.starts _ (squ.starts _ (st0.starts _ (st1.starts _ (st2.starts _ (st3.starts _ (zq.starts _ (m1.starts _ (m2.starts _ (m3.starts _ (m4.starts _
    (bk1.starts _ (bk0.starts _ (tot.starts _ (dec.starts _ StableHlo.IsSeq.nil))))))))))))))

/-- A wider range of numbers. -/
theorem widen {lo hi lo' hi' : ℕ} {l : Ops} (h : ∀ op ∈ l, Within lo hi op) (h1 : lo' ≤ lo) (h2 : hi ≤ hi') :
    ∀ op ∈ l, Within lo' hi' op := fun op ho => by
  obtain ⟨hb, hf, w, hw, ha, hc⟩ := h op ho
  exact ⟨hb, hf, w, hw, h1.trans ha, lt_of_lt_of_le hc h2⟩

/-- Two stretches together. -/
theorem all_append {P : HloOp τ sig (Elt Ideal) → Prop} {l l' : Ops} (h : ∀ op ∈ l, P op) (h' : ∀ op ∈ l', P op) :
    ∀ op ∈ l ++ l', P op := fun op ho => (List.mem_append.mp ho).elim (h op) (h' op)

/-- No operation of the program writes an argument. -/
theorem ops_within : ∀ op ∈ ops, Within 19 530 op :=
  all_append (widen enc_within (by decide) (by decide)) (all_append (widen squ_within (by decide) (by decide)) (all_append (widen st0_within (by
    decide) (by decide)) (all_append (widen st1_within (by decide) (by decide)) (all_append (widen st2_within (by decide) (by decide)) (all_append
    (widen st3_within (by decide) (by decide)) (all_append (widen zq_within (by decide) (by decide)) (all_append (widen m1_within (by decide) (by
    decide)) (all_append (widen m2_within (by decide) (by decide)) (all_append (widen m3_within (by decide) (by decide)) (all_append (widen m4_within
    (by decide) (by decide)) (all_append (widen bk1_within (by decide) (by decide)) (all_append (widen bk0_within (by decide) (by decide)) (all_append
    (widen tot_within (by decide) (by decide)) (all_append (widen dec_within (by decide) (by decide)) all_nil))))))))))))))

/-- The run: every buffer ends with what the operations, one after another, leave in it. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = StableHlo.after ops (StableHlo.launchContents m d) (Proc.devRef .tc b) :=
  StableHlo.run_hlo _ _ main_seq (by decide) (by decide) (List.forall_iff_forall_mem.mpr fun op ho => (ops_within op ho).1)
    (fun op ho => (ops_within op ho).2.1) m ρ

end Cert.Vq.R

end
-- ==== Proof.RefRows.lean ====
/-
  The reference's array computations by name, and each of them read at one entry.
-/
module

public import proofs.«01_k».proof.Proof.Gen.ReferenceIdeal
public import proofs.«01_k».proof.Proof.RefMath
public import Idealize.ShloMosaic.Lib.Pointwise
public import Idealize.ShloMosaic.Lib.Routing.Ops

@[expose] public section

set_option maxRecDepth 16384

noncomputable section

open Idealize.ShloMosaic Idealize.ShloMosaic.TcCoe
open Cert.ReferenceIdeal Cert.ReferenceIdeal.Gen

namespace Cert.Vq.R

/-- A row of 64 entries per input row. -/
abbrev M64 := FVec Ideal S16384x64 .f32

/-- One constant at every entry. -/
def splat (b : BitVec 32) : M64 := broadcastInDim S16384x64 ![] bcast_S_S16384x64 (constant S_ .f32 b)

/-- One constant at each of 64 entries. -/
def splat64 (b : BitVec 32) : FVec Ideal S64 .f32 := broadcastInDim S64 ![] bcast_S_S64 (constant S_ .f32 b)

/-- The softplus of 64 parameters. -/
def softA (x : FVec Ideal S64 .f32) : FVec Ideal S64 .f32 :=
  select (cmpf .une (subf x (splat64 0x00000000#32)) (subf x (splat64 0x00000000#32))) (addf x (splat64 0x00000000#32))
    (addf (maximumf x (splat64 0x00000000#32)) (Host.log1p (Host.exp (Host.negf (Host.absf (subf x (splat64 0x00000000#32)))))))

/-- The shape parameters of 64 unconstrained ones. -/
def shapeA (x : FVec Ideal S64 .f32) : FVec Ideal S64 .f32 := addf (softA x) (splat64 0x358637BD#32)

/-- Every entry held between two constants. -/
def clipA (lo hi : BitVec 32) (x : M64) : M64 := minimumf (splat hi) (maximumf (splat lo) x)

/-- One minus every entry. -/
def flipA (x : M64) : M64 := subf (splat 0x3F800000#32) x

/-- A vector of 64 entries in every row. -/
def spread (v : FVec Ideal S64 .f32) : M64 :=
  broadcastInDim S16384x64 ![0, 1] bcast_S1x64_S16384x64_0_1 (broadcastInDim S1x64 ![1] bcast_S64_S1x64_1 v)

/-- The logistic function. -/
def sigA (z : M64) : M64 := Host.divf (splat 0x3F800000#32) (addf (splat 0x3F800000#32) (Host.exp (Host.negf z)))

/-- The squashing map. -/
def squashA (z : M64) (a b : FVec Ideal S64 .f32) : M64 :=
  clipA 0x358637BD#32 0x3F7FFFEF#32 (flipA (Host.powf (clipA 0x358637BD#32 0x3F800000#32
    (flipA (Host.powf (clipA 0x358637BD#32 0x3F7FFFEF#32 (sigA z)) (spread a)))) (spread b)))

/-- The reciprocals of 64 entries. -/
def recipA (v : FVec Ideal S64 .f32) : FVec Ideal S64 .f32 := Host.divf (splat64 0x3F800000#32) v

/-- The argument of the last logarithm of the inverse squashing map. -/
def innerA (y : M64) (a b : FVec Ideal S64 .f32) : M64 :=
  clipA 0x358637BD#32 0x3F7FFFEF#32 (Host.powf (clipA 0x358637BD#32 0x3F7FFFEF#32 (flipA (Host.powf
    (clipA 0x358637BD#32 0x3F800000#32 (flipA (clipA 0x358637BD#32 0x3F7FFFEF#32 y))) (spread (recipA b))))) (spread (recipA a)))

/-- The inverse squashing map. -/
def backA (y : M64) (a b : FVec Ideal S64 .f32) : M64 := Host.log (Host.divf (innerA y a b) (flipA (innerA y a b)))

/-- The squared distances of every row to every code. -/
def distA (r : M64) (C : FVec Ideal S256x64 .f32) : FVec Ideal S16384x256 .f32 :=
  addf (subf (broadcastInDim S16384x256 ![0, 1] bcast_S16384x1_S16384x256_0_1 (broadcastInDim S16384x1 ![0] bcast_S16384_S16384x1_0
      (Host.reduceAdd (mulf r r) (constant S_ .f32 0x00000000#32) reducesTo_S16384x64_S16384_d1 h_S_)))
      (Host.dotGeneral dot_S16384x64_S64x256_S16384x256_1_0_0_1_n_n none (mulf (splat 0x40000000#32) r)
        (transpose S64x256 [1, 0] C transposes_S256x64_S64x256_1_0)))
    (broadcastInDim S16384x256 ![0, 1] bcast_S1x256_S16384x256_0_1 (broadcastInDim S1x256 ![1] bcast_S256_S1x256_1
      (Host.reduceAdd (mulf C C) (constant S_ .f32 0x00000000#32) reducesTo_S256x64_S256_d1 h_S_)))

/-- The position of the least entry of every row. -/
def codeA (d : FVec Ideal S16384x256 .f32) : IVec S16384 32 := fun j =>
  (Host.argReduce (F := Ideal) reducer_argmin_f32_i32 d (iotaInDim S16384x256 32 1) (constant S_ .f32 0x7F800000#32) (constantI S_ 32 0#32)
    reducesTo_S16384x256_S16384_d1 h_S_ j).2

/-- The rows of a codebook named by a list of positions, a negative position counting from the end. -/
def takeA (C : FVec Ideal S256x64 .f32) (k : IVec S16384 32) : M64 :=
  Host.gather gather_S256x64_S16384x1_S16384x64_1_0_n_n_0_1_164 C (broadcastInDim S16384x1 ![0] bcast_S16384_S16384x1_0
    (select (cmpi .slt k (broadcastInDim S16384 ![] bcast_S_S16384 (constantI S_ 32 0#32)))
      (addi k (broadcastInDim S16384 ![] bcast_S_S16384 (constantI S_ 32 256#32))) k))

/-- The mean of the squares of a difference. -/
def meanA (q r : M64) : FVec Ideal S_ .f32 :=
  Host.divf (Host.reduceAdd (mulf (subf q r) (subf q r)) (constant S_ .f32 0x00000000#32) reducesTo_S16384x64_S_d0_1 h_S_)
    (constant S_ .f32 0x49800000#32)

/-- The loss of one round. -/
def lossA (q r : M64) : FVec Ideal S_ .f32 := addf (meanA q r) (mulf (constant S_ .f32 0x3E800000#32) (meanA q r))

/-- The encoder. -/
def encA (x : FVec Ideal S16384x768 .f32) (W1 : FVec Ideal S768x1024 .f32) (b1 : FVec Ideal S1024 .f32) (W2 : FVec Ideal S1024x512 .f32)
    (b2 : FVec Ideal S512 .f32) (W3 : FVec Ideal S512x64 .f32) (b3 : FVec Ideal S64 .f32) : M64 :=
  addf (Host.dotGeneral dot_S16384x512_S512x64_S16384x64_1_0_0_1_n_n none
    (maximumf (addf (Host.dotGeneral dot_S16384x1024_S1024x512_S16384x512_1_0_0_1_n_n none
      (maximumf (addf (Host.dotGeneral dot_S16384x768_S768x1024_S16384x1024_1_0_0_1_n_n none x W1)
        (broadcastInDim S16384x1024 ![0, 1] bcast_S1x1024_S16384x1024_0_1 (broadcastInDim S1x1024 ![1] bcast_S1024_S1x1024_1 b1)))
        (broadcastInDim S16384x1024 ![] bcast_S_S16384x1024 (constant S_ .f32 0x00000000#32))) W2)
      (broadcastInDim S16384x512 ![0, 1] bcast_S1x512_S16384x512_0_1 (broadcastInDim S1x512 ![1] bcast_S512_S1x512_1 b2)))
      (broadcastInDim S16384x512 ![] bcast_S_S16384x512 (constant S_ .f32 0x00000000#32))) W3)
    (spread b3)

/-- The decoder. -/
def decA (y : M64) (W4 : FVec Ideal S64x512 .f32) (b4 : FVec Ideal S512 .f32) (W5 : FVec Ideal S512x1024 .f32)
    (b5 : FVec Ideal S1024 .f32) (W6 : FVec Ideal S1024x768 .f32) (b6 : FVec Ideal S768 .f32) : FVec Ideal S16384x768 .f32 :=
  addf (Host.dotGeneral dot_S16384x1024_S1024x768_S16384x768_1_0_0_1_n_n none
    (maximumf (addf (Host.dotGeneral dot_S16384x512_S512x1024_S16384x1024_1_0_0_1_n_n none
      (maximumf (addf (Host.dotGeneral dot_S16384x64_S64x512_S16384x512_1_0_0_1_n_n none y W4)
        (broadcastInDim S16384x512 ![0, 1] bcast_S1x512_S16384x512_0_1 (broadcastInDim S1x512 ![1] bcast_S512_S1x512_1 b4)))
        (broadcastInDim S16384x512 ![] bcast_S_S16384x512 (constant S_ .f32 0x00000000#32))) W5)
      (broadcastInDim S16384x1024 ![0, 1] bcast_S1x1024_S16384x1024_0_1 (broadcastInDim S1x1024 ![1] bcast_S1024_S1x1024_1 b5)))
      (broadcastInDim S16384x1024 ![] bcast_S_S16384x1024 (constant S_ .f32 0x00000000#32))) W6)
    (broadcastInDim S16384x768 ![0, 1] bcast_S1x768_S16384x768_0_1 (broadcastInDim S1x768 ![1] bcast_S768_S1x768_1 b6))

/-- The mean of four losses, each first made a list of one. -/
def fourA (l : Fin 4 → FVec Ideal S1 .f32) : FVec Ideal S_ .f32 :=
  Host.divf (Host.reduceAdd (concatenate S4 0 [⟨S1, l 0⟩, ⟨S1, l 1⟩, ⟨S1, l 2⟩, ⟨S1, l 3⟩] concatenates_S1_S1_S1_S1_S4_d0)
    (constant S_ .f32 0x00000000#32) reducesTo_S4_S_d0 h_S_) (constant S_ .f32 0x40800000#32)

/-- A loss as a list of one. -/
def oneA (l : FVec Ideal S_ .f32) : FVec Ideal S1 .f32 := broadcastInDim S1 ![] bcast_S_S1 l

/-- Four columns side by side. -/
def colsA (k : Fin 4 → IVec S16384x1 32) : IVec S16384x4 32 :=
  concatenate S16384x4 1 [⟨S16384x1, k 0⟩, ⟨S16384x1, k 1⟩, ⟨S16384x1, k 2⟩, ⟨S16384x1, k 3⟩]
    concatenates_S16384x1_S16384x1_S16384x1_S16384x1_S16384x4_d1

/-- A list of code numbers as a column. -/
def colA (k : IVec S16384 32) : IVec S16384x1 32 := broadcastInDim S16384x1 ![0] bcast_S16384_S16384x1_0 k

/-- The whole loss: the mean of the rounds' losses, and the mean squared error of the round trip through the squashing map. -/
def totA (l : FVec Ideal S_ .f32) (y z : M64) : FVec Ideal S_ .f32 := addf l (mulf (constant S_ .f32 0x3F800000#32) (meanA y z))

/-- A softplus at an entry. -/
theorem soft_at (x : FVec Ideal S64 .f32) (q : Fin 64) : softA x (ix1 q) = Ideal.log (1 + Ideal.exp (x (ix1 q))) := by
  rw [← soft_eq]
  pointwise [softA, splat64]
  rw [if_neg (not_not.mpr rfl)]; rfl

/-- A shape parameter at an entry. -/
theorem shape_at (x : FVec Ideal S64 .f32) (q : Fin 64) : shapeA x (ix1 q) = shape (x (ix1 q)) := by
  pointwise [shapeA, splat64]
  rw [soft_at]; rfl

/-- The word of one. -/
theorem one_bits : Ideal.ofBits .f32 0x3F800000#32 = 1 := by
  have h : Ideal.ofBits .f32 0x3F800000#32 = ((1 : ℝ) : EReal) := by
    simp [Ideal.ofBits, Ideal.ieee]
    rw [← EReal.coe_mul, ← EReal.coe_one]
    norm_num
  exact h

/-- A splat, at an entry. -/
theorem splat_at (b : BitVec 32) (x : S16384x64.Idx) : splat b x = Ideal.ofBits .f32 b := rfl

/-- A clipped array, at an entry. -/
theorem clip_at (lo hi : BitVec 32) (v : M64) (x : S16384x64.Idx) :
    clipA lo hi v x = clip (Ideal.ofBits .f32 lo) (Ideal.ofBits .f32 hi) (v x) := rfl

/-- One less an array, at an entry. -/
theorem flip_at (v : M64) (x : S16384x64.Idx) : flipA v x = 1 - v x := by
  show Ideal.ofBits .f32 0x3F800000#32 - v x = _
  rw [one_bits]

/-- A row spread over the rows, at an entry. -/
theorem spread_at (v : FVec Ideal S64 .f32) (i : Fin 16384) (q : Fin 64) : spread v (ix2 i q) = v (ix1 q) := by
  pointwise [spread]

/-- The sigmoid, at an entry. -/
theorem sig_at (z : M64) (x : S16384x64.Idx) : sigA z x = Ideal.logistic (z x) := by
  show Ideal.div (Ideal.ofBits .f32 0x3F800000#32) (Ideal.ofBits .f32 0x3F800000#32 + Ideal.exp (-(z x))) = _
  rw [one_bits]; rfl

/-- A power, at an entry. -/
theorem pow_at (u v : M64) (x : S16384x64.Idx) : Host.powf u v x = Ideal.pow (u x) (v x) := rfl

/-- The squashing map at an entry. -/
theorem squash_at (z : M64) (a b : FVec Ideal S64 .f32) (i : Fin 16384) (q : Fin 64) :
    squashA z a b (ix2 i q) = squash (z (ix2 i q)) (a (ix1 q)) (b (ix1 q)) := by
  unfold squashA squash
  simp only [clip_at, flip_at, pow_at, spread_at, sig_at, one_bits]
  rw [pow_clip_one, pow_clip_top]

/-- A reciprocal, at an entry. -/
theorem recip_at (v : FVec Ideal S64 .f32) (q : Fin 64) : recipA v (ix1 q) = Ideal.div 1 (v (ix1 q)) := by
  show Ideal.div (Ideal.ofBits .f32 0x3F800000#32) _ = _
  rw [one_bits]

/-- The inverse squashing map at an entry. -/
theorem back_at (y : M64) (a b : FVec Ideal S64 .f32) (i : Fin 16384) (q : Fin 64) :
    backA y a b (ix2 i q) = unsquash (y (ix2 i q)) (Ideal.div 1 (a (ix1 q))) (Ideal.div 1 (b (ix1 q))) := by
  have h : innerA y a b (ix2 i q) = clip eps top1 (power (clip eps top1 (1 - power (clip eps 1 (1 - clip eps top1 (y (ix2 i q))))
      (Ideal.div 1 (b (ix1 q))))) (Ideal.div 1 (a (ix1 q)))) := by
    unfold innerA
    simp only [clip_at, flip_at, pow_at, spread_at, recip_at, one_bits]
    rw [pow_clip_one, pow_clip_top]
  show Ideal.log (Ideal.div (innerA y a b (ix2 i q)) (flipA (innerA y a b) (ix2 i q))) = _
  rw [flip_at, h]; rfl

/-- A distance at an entry. -/
theorem dist_at (r : M64) (C : FVec Ideal S256x64 .f32) (i : Fin 16384) (k : Fin 256) :
    distA r C (ix2 i k) = dist (fun q => r (ix2 i q)) (fun k q => C (ix2 k q)) k := by
  pointwise [distA, splat]
  unfold dist
  rw [← two_sum]

/-- What the body of the argmin keeps. -/
theorem reducer_before (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨a, i⟩ := a
  obtain ⟨b, j⟩ := b
  have hc : ∀ p (x y : EReal), FloatOps.cmpf (F := Ideal) (φ := .f32) p x y = Ideal.cmp p x y := fun _ _ _ => rfl
  rcases lt_trichotomy a b with h | rfl | h
  · have : reducer_argmin_f32_i32 (F := Ideal) (a, i) (b, j) = (a, i) := by
      simp [reducer_argmin_f32_i32, Scalar.select, hc, Ideal.cmp, h, h.ne, IntOp.ori, IntOp.andi]
    rw [this]; exact ⟨.inl rfl, .rfl, .inl h⟩
  · by_cases hij : i.toInt < j.toInt
    · have : reducer_argmin_f32_i32 (F := Ideal) (a, i) (a, j) = (a, i) := by
        simp [reducer_argmin_f32_i32, Scalar.select, hc, Ideal.cmp, IntOp.cmpi, BitVec.slt, hij, IntOp.ori, IntOp.andi]
      rw [this]; exact ⟨.inl rfl, .rfl, .inr ⟨rfl, hij.le⟩⟩
    · have : reducer_argmin_f32_i32 (F := Ideal) (a, i) (a, j) = (a, j) := by
        simp [reducer_argmin_f32_i32, Scalar.select, hc, Ideal.cmp, IntOp.cmpi, BitVec.slt, hij, IntOp.ori, IntOp.andi]
      rw [this]; exact ⟨.inr rfl, .inr ⟨rfl, not_lt.mp hij⟩, .rfl⟩
  · have : reducer_argmin_f32_i32 (F := Ideal) (a, i) (b, j) = (b, j) := by
      simp [reducer_argmin_f32_i32, Scalar.select, hc, Ideal.cmp, h.not_gt, h.ne', IntOp.ori, IntOp.andi]
    rw [this]; exact ⟨.inr rfl, .inl h, .rfl⟩

/-- The position of the least entry of one row, over any number of rows. -/
theorem code_fold {n : ℕ} (d : FVec Ideal (⟨2, ![n, 256]⟩ : Shape) .f32) (y : (⟨2, ![n, 256]⟩ : Shape).Idx → BitVec 32)
    (hy : ∀ i k, y (ix2 i k) = BitVec.ofNat 32 (k : ℕ)) (ix : FVec Ideal S_ .f32) (iy : S_.Idx → BitVec 32)
    (hx : ∀ x, ix x = (⊤ : EReal)) (hz : ∀ x, iy x = 0#32) (h : (⟨2, ![n, 256]⟩ : Shape).ReducesTo [1] (⟨1, ![n]⟩ : Shape)) (hu : 0 < S_.numel) (i : Fin n) :
    (Host.argReduce (F := Ideal) reducer_argmin_f32_i32 d y ix iy h hu (ix1 i)).2 = BitVec.ofNat 32 (code fun k => d (ix2 i k) : ℕ) := by
  rw [Ideal.argReduce_eq_reduce2, Host.reduce2_eq_foldl_fiber, hx, hz]
  refine foldl_code _ reducer_before (fun k => d (ix2 i k)) _ (fun p hp => ?_) (fun k => ?_)
  · obtain ⟨e, he, rfl⟩ := List.mem_map.mp hp
    obtain ⟨k, hk⟩ := (Shape.ReducesTo.fiber_r2_a1 h (ix1 i) _).mp (of_decide_eq_true (List.mem_filter.mp he).2)
    refine ⟨k, ?_⟩
    rw [← hk]; exact congrArg (Prod.mk _) (hy i k)
  · refine List.mem_map.mpr ⟨(⟨2, ![n, 256]⟩ : Shape).rowMajor (ix2 i k), List.mem_filter.mpr ⟨List.mem_finRange _, ?_⟩, ?_⟩
    · rw [Equiv.symm_apply_apply]
      exact decide_eq_true ((Shape.ReducesTo.fiber_r2_a1 h (ix1 i) _).mpr ⟨k, rfl⟩)
    · rw [Equiv.symm_apply_apply, hy]

/-- The positions along a row. -/
theorem iota_at (i : Fin 16384) (k : Fin 256) : iotaInDim S16384x256 32 1 (ix2 i k) = BitVec.ofNat 32 (k : ℕ) := by
  pointwise

/-- The first value the fold starts from. -/
theorem start_at (x : S_.Idx) : constant (F := Ideal) S_ .f32 0x7F800000#32 x = (⊤ : EReal) := by
  pointwise
  exact ofBits_inf

/-- The first position the fold starts from. -/
theorem zero_at (x : S_.Idx) : constantI S_ 32 0#32 x = 0#32 := by pointwise

/-- The code numbers as one function of the row. -/
theorem codeA_eq (d : FVec Ideal S16384x256 .f32) : codeA d = fun j =>
    (Host.argReduce (F := Ideal) reducer_argmin_f32_i32 d (iotaInDim S16384x256 32 1) (constant S_ .f32 0x7F800000#32) (constantI S_ 32 0#32)
      reducesTo_S16384x256_S16384_d1 h_S_ j).2 := rfl

/-- A code number at a row. -/
theorem code_at (d : FVec Ideal S16384x256 .f32) (i : Fin 16384) :
    codeA d (ix1 i) = BitVec.ofNat 32 (code fun k => d (ix2 i k) : ℕ) :=
  (congrFun (codeA_eq d) (ix1 i)).trans
    (code_fold d (iotaInDim S16384x256 32 1) iota_at (constant S_ .f32 0x7F800000#32) (constantI S_ 32 0#32) start_at zero_at
      reducesTo_S16384x256_S16384_d1 h_S_ i)

/-- A taken code at an entry. -/
theorem take_at (C : FVec Ideal S256x64 .f32) (k : IVec S16384 32) (i : Fin 16384) (κ : Fin 256) (hk : k (ix1 i) = BitVec.ofNat 32 (κ : ℕ))
    (q : Fin 64) : takeA C k (ix2 i q) = C (ix2 κ q) := by
  have hs : ∀ m : Fin 256, Scalar.select (IntOp.cmpi .slt (BitVec.ofNat 32 (m : ℕ)) 0#32) (IntOp.addi (BitVec.ofNat 32 (m : ℕ)) 256#32)
      (BitVec.ofNat 32 (m : ℕ)) = BitVec.ofNat 32 (m : ℕ) := by decide
  unfold takeA
  refine Routing.gather_row (nb := 256) (B := 64) (n := 16384) _ rfl rfl rfl rfl rfl C _ i q κ ?_ (by norm_num)
  pointwise
  have hi : ((ValueIdx.ix2 i (0 : Fin 1)) 0 : Fin 16384) = i := rfl
  rw [show k (ix1 (ValueIdx.ix2 i (0 : Fin 1) 0)) = BitVec.ofNat 32 (κ : ℕ) from hk]
  exact hs κ

/-- A loss, at the only entry. -/
theorem loss_at (q r : M64) (x : S_.Idx) :
    lossA q r x = loss (∑ i : Fin 16384, ∑ j : Fin 64, (q (ix2 i j) - r (ix2 i j)) * (q (ix2 i j) - r (ix2 i j))) := by
  pointwise [lossA, meanA]
  rfl

/-- The encoder at an entry. -/
theorem enc_at (x : FVec Ideal S16384x768 .f32) (W1 : FVec Ideal S768x1024 .f32) (b1 : FVec Ideal S1024 .f32) (W2 : FVec Ideal S1024x512 .f32)
    (b2 : FVec Ideal S512 .f32) (W3 : FVec Ideal S512x64 .f32) (b3 : FVec Ideal S64 .f32) (i : Fin 16384) (j : Fin 64) :
    encA x W1 b1 W2 b2 W3 b3 (ix2 i j) = mlp (fun q => x (ix2 i q)) (fun k q => W1 (ix2 k q)) (fun q => b1 (ix1 q))
      (fun k q => W2 (ix2 k q)) (fun q => b2 (ix1 q)) (fun k q => W3 (ix2 k q)) (fun q => b3 (ix1 q)) j := by
  pointwise [encA, spread]
  rfl

/-- The decoder at an entry. -/
theorem dec_at (y : M64) (W4 : FVec Ideal S64x512 .f32) (b4 : FVec Ideal S512 .f32) (W5 : FVec Ideal S512x1024 .f32)
    (b5 : FVec Ideal S1024 .f32) (W6 : FVec Ideal S1024x768 .f32) (b6 : FVec Ideal S768 .f32) (i : Fin 16384) (j : Fin 768) :
    decA y W4 b4 W5 b5 W6 b6 (ix2 i j) = mlp (fun q => y (ix2 i q)) (fun k q => W4 (ix2 k q)) (fun q => b4 (ix1 q))
      (fun k q => W5 (ix2 k q)) (fun q => b5 (ix1 q)) (fun k q => W6 (ix2 k q)) (fun q => b6 (ix1 q)) j := by
  pointwise [decA]
  rfl

/-- The mean of four losses, at the only entry. -/
theorem four_at (l : Fin 4 → FVec Ideal S_ .f32) (x : S_.Idx) :
    fourA (fun s => oneA (l s)) x = Ideal.div (l 0 x + l 1 x + l 2 x + l 3 x) (Ideal.ofBits .f32 0x40800000#32) := by
  have hx : x = ix0 := funext fun a => a.elim0
  subst hx
  pointwise [fourA, oneA]
  rw [Fin.sum_univ_four]; rfl

/-- The code numbers side by side, at an entry. -/
theorem cols_at (k : Fin 4 → IVec S16384 32) (i : Fin 16384) (s : Fin 4) : colsA (fun s => colA (k s)) (ix2 i s) = k s (ix1 i) := by
  fin_cases s <;> pointwise [colsA, colA]

/-- The whole loss, at the only entry. -/
theorem tot_at (l : FVec Ideal S_ .f32) (y z : M64) (x : S_.Idx) :
    totA l y z x = l x + Ideal.div (∑ i : Fin 16384, ∑ j : Fin 64, (y (ix2 i j) - z (ix2 i j)) * (y (ix2 i j) - z (ix2 i j)))
      (Ideal.ofBits .f32 0x49800000#32) := by
  pointwise [totA, meanA]

end Cert.Vq.R

end
-- ==== Proof.RefRead.lean ====
/-
  What each stretch of the reference leaves in the buffers read later, over the contents before it.
-/
module

public import proofs.«01_k».proof.Proof.RefRun
public import proofs.«01_k».proof.Proof.RefRows

@[expose] public section

set_option maxRecDepth 65536

noncomputable section

open Idealize.ShloMosaic Idealize.ShloMosaic.TcCoe Idealize.SL.Sem
open Cert.ReferenceIdeal Cert.ReferenceIdeal.Gen

namespace Cert.Vq.R

variable (V : Valuation τ sig (Elt Ideal))

set_option maxHeartbeats 4000000

/-- The encoder leaves the encoded rows. -/
theorem enc_z : StableHlo.after enc.ops V (Proc.devRef .tc main_v13) = encA (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  after_reads_simp
  rfl

/-- The squashing leaves the squashed rows. -/
theorem squ_r : StableHlo.after squ.ops V (Proc.devRef .tc main_v38) = squashA (V (Proc.devRef .tc main_v13)) (shapeA (V (Proc.devRef .tc main_arg17))) (shapeA (V (Proc.devRef .tc main_arg18))) := by
  after_reads_simp
  rfl

/-- The sum of codes starts from zeros. -/
theorem squ_o : StableHlo.after squ.ops V (Proc.devRef .tc main_v39) = splat 0x00000000#32 := by
  after_reads_simp
  rfl

/-- Round 0: the code numbers. -/
theorem st0_k : StableHlo.after st0.ops V (Proc.devRef .tc main_v54) = codeA (distA (V (Proc.devRef .tc main_v38)) (V (Proc.devRef .tc main_arg13))) := by
  after_reads_simp
  rfl

/-- Round 0: the loss. -/
theorem st0_l : StableHlo.after st0.ops V (Proc.devRef .tc main_v71) = lossA (takeA (V (Proc.devRef .tc main_arg13)) (codeA (distA (V (Proc.devRef .tc main_v38)) (V (Proc.devRef .tc main_arg13))))) (V (Proc.devRef .tc main_v38)) := by
  after_reads_simp
  rfl

/-- Round 0: the sum of codes so far. -/
theorem st0_s : StableHlo.after st0.ops V (Proc.devRef .tc main_v72) = addf (V (Proc.devRef .tc main_v39)) (takeA (V (Proc.devRef .tc main_arg13)) (codeA (distA (V (Proc.devRef .tc main_v38)) (V (Proc.devRef .tc main_arg13))))) := by
  after_reads_simp
  rfl

/-- Round 0: the residual. -/
theorem st0_r : StableHlo.after st0.ops V (Proc.devRef .tc main_v73) = subf (V (Proc.devRef .tc main_v38)) (takeA (V (Proc.devRef .tc main_arg13)) (codeA (distA (V (Proc.devRef .tc main_v38)) (V (Proc.devRef .tc main_arg13))))) := by
  after_reads_simp
  rfl

/-- Round 1: the code numbers. -/
theorem st1_k : StableHlo.after st1.ops V (Proc.devRef .tc main_v88) = codeA (distA (V (Proc.devRef .tc main_v73)) (V (Proc.devRef .tc main_arg14))) := by
  after_reads_simp
  rfl

/-- Round 1: the loss. -/
theorem st1_l : StableHlo.after st1.ops V (Proc.devRef .tc main_v105) = lossA (takeA (V (Proc.devRef .tc main_arg14)) (codeA (distA (V (Proc.devRef .tc main_v73)) (V (Proc.devRef .tc main_arg14))))) (V (Proc.devRef .tc main_v73)) := by
  after_reads_simp
  rfl

/-- Round 1: the sum of codes so far. -/
theorem st1_s : StableHlo.after st1.ops V (Proc.devRef .tc main_v106) = addf (V (Proc.devRef .tc main_v72)) (takeA (V (Proc.devRef .tc main_arg14)) (codeA (distA (V (Proc.devRef .tc main_v73)) (V (Proc.devRef .tc main_arg14))))) := by
  after_reads_simp
  rfl

/-- Round 1: the residual. -/
theorem st1_r : StableHlo.after st1.ops V (Proc.devRef .tc main_v107) = subf (V (Proc.devRef .tc main_v73)) (takeA (V (Proc.devRef .tc main_arg14)) (codeA (distA (V (Proc.devRef .tc main_v73)) (V (Proc.devRef .tc main_arg14))))) := by
  after_reads_simp
  rfl

/-- Round 2: the code numbers. -/
theorem st2_k : StableHlo.after st2.ops V (Proc.devRef .tc main_v122) = codeA (distA (V (Proc.devRef .tc main_v107)) (V (Proc.devRef .tc main_arg15))) := by
  after_reads_simp
  rfl

/-- Round 2: the loss. -/
theorem st2_l : StableHlo.after st2.ops V (Proc.devRef .tc main_v139) = lossA (takeA (V (Proc.devRef .tc main_arg15)) (codeA (distA (V (Proc.devRef .tc main_v107)) (V (Proc.devRef .tc main_arg15))))) (V (Proc.devRef .tc main_v107)) := by
  after_reads_simp
  rfl

/-- Round 2: the sum of codes so far. -/
theorem st2_s : StableHlo.after st2.ops V (Proc.devRef .tc main_v140) = addf (V (Proc.devRef .tc main_v106)) (takeA (V (Proc.devRef .tc main_arg15)) (codeA (distA (V (Proc.devRef .tc main_v107)) (V (Proc.devRef .tc main_arg15))))) := by
  after_reads_simp
  rfl

/-- Round 2: the residual. -/
theorem st2_r : StableHlo.after st2.ops V (Proc.devRef .tc main_v141) = subf (V (Proc.devRef .tc main_v107)) (takeA (V (Proc.devRef .tc main_arg15)) (codeA (distA (V (Proc.devRef .tc main_v107)) (V (Proc.devRef .tc main_arg15))))) := by
  after_reads_simp
  rfl

/-- Round 3: the code numbers. -/
theorem st3_k : StableHlo.after st3.ops V (Proc.devRef .tc main_v156) = codeA (distA (V (Proc.devRef .tc main_v141)) (V (Proc.devRef .tc main_arg16))) := by
  after_reads_simp
  rfl

/-- Round 3: the loss. -/
theorem st3_l : StableHlo.after st3.ops V (Proc.devRef .tc main_v173) = lossA (takeA (V (Proc.devRef .tc main_arg16)) (codeA (distA (V (Proc.devRef .tc main_v141)) (V (Proc.devRef .tc main_arg16))))) (V (Proc.devRef .tc main_v141)) := by
  after_reads_simp
  rfl

/-- Round 3: the sum of codes so far. -/
theorem st3_s : StableHlo.after st3.ops V (Proc.devRef .tc main_v174) = addf (V (Proc.devRef .tc main_v140)) (takeA (V (Proc.devRef .tc main_arg16)) (codeA (distA (V (Proc.devRef .tc main_v141)) (V (Proc.devRef .tc main_arg16))))) := by
  after_reads_simp
  rfl

/-- The quantized rows. -/
theorem zq_y : StableHlo.after zq.ops V (Proc.devRef .tc main_v177) = (addf (V (Proc.devRef .tc main_v38) : M64) (subf (V (Proc.devRef .tc main_v174) : M64) (V (Proc.devRef .tc main_v38) : M64)) : M64) := by
  after_reads_simp

/-- Round 0: the loss as a list of one. -/
theorem m1_0 : StableHlo.after m1.ops V (Proc.devRef .tc main_v178) = oneA (V (Proc.devRef .tc main_v71)) := by
  after_reads_simp
  rfl

/-- Round 1: the loss as a list of one. -/
theorem m1_1 : StableHlo.after m1.ops V (Proc.devRef .tc main_v179) = oneA (V (Proc.devRef .tc main_v105)) := by
  after_reads_simp
  rfl

/-- Round 2: the loss as a list of one. -/
theorem m1_2 : StableHlo.after m1.ops V (Proc.devRef .tc main_v180) = oneA (V (Proc.devRef .tc main_v139)) := by
  after_reads_simp
  rfl

/-- Round 3: the loss as a list of one. -/
theorem m1_3 : StableHlo.after m1.ops V (Proc.devRef .tc main_v181) = oneA (V (Proc.devRef .tc main_v173)) := by
  after_reads_simp
  rfl

/-- The mean of the losses. -/
theorem m2_l : StableHlo.after m2.ops V (Proc.devRef .tc main_v184) = fourA ![(V (Proc.devRef .tc main_v178)), (V (Proc.devRef .tc main_v179)), (V (Proc.devRef .tc main_v180)), (V (Proc.devRef .tc main_v181))] := by
  after_reads_simp
  rfl

/-- Round 0: the code numbers as a column. -/
theorem m3_0 : StableHlo.after m3.ops V (Proc.devRef .tc main_v185) = colA (V (Proc.devRef .tc main_v54)) := by
  after_reads_simp
  rfl

/-- Round 1: the code numbers as a column. -/
theorem m3_1 : StableHlo.after m3.ops V (Proc.devRef .tc main_v186) = colA (V (Proc.devRef .tc main_v88)) := by
  after_reads_simp
  rfl

/-- Round 2: the code numbers as a column. -/
theorem m3_2 : StableHlo.after m3.ops V (Proc.devRef .tc main_v187) = colA (V (Proc.devRef .tc main_v122)) := by
  after_reads_simp
  rfl

/-- Round 3: the code numbers as a column. -/
theorem m3_3 : StableHlo.after m3.ops V (Proc.devRef .tc main_v188) = colA (V (Proc.devRef .tc main_v156)) := by
  after_reads_simp
  rfl

/-- The code numbers side by side. -/
theorem m4_k : StableHlo.after m4.ops V (Proc.devRef .tc main_v189) = colsA ![(V (Proc.devRef .tc main_v185)), (V (Proc.devRef .tc main_v186)), (V (Proc.devRef .tc main_v187)), (V (Proc.devRef .tc main_v188))] := by
  after_reads_simp
  rfl

/-- The quantized rows mapped back. -/
theorem bk1_y : StableHlo.after bk1.ops V (Proc.devRef .tc main_v217) = backA (V (Proc.devRef .tc main_v177)) (shapeA (V (Proc.devRef .tc main_arg17))) (shapeA (V (Proc.devRef .tc main_arg18))) := by
  after_reads_simp
  rfl

/-- The squashed rows mapped back. -/
theorem bk0_y : StableHlo.after bk0.ops V (Proc.devRef .tc main_v245) = backA (V (Proc.devRef .tc main_v38)) (shapeA (V (Proc.devRef .tc main_arg17))) (shapeA (V (Proc.devRef .tc main_arg18))) := by
  after_reads_simp
  rfl

/-- The whole loss. -/
theorem tot_l : StableHlo.after tot.ops V (Proc.devRef .tc main_v251) = totA (V (Proc.devRef .tc main_v184)) (V (Proc.devRef .tc main_v245)) (V (Proc.devRef .tc main_v13)) := by
  after_reads_simp
  rfl

/-- The decoded rows. -/
theorem dec_y : StableHlo.after dec.ops V (Proc.devRef .tc main_v265) = decA (V (Proc.devRef .tc main_v217)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  after_reads_simp
  rfl

end Cert.Vq.R

end
-- ==== Proof.RefChain.lean ====
/-
  The reference's stretches put together: the three results over the contents the run starts from.
-/
module

public import proofs.«01_k».proof.Proof.RefRead
public import Idealize.ShloMosaic.Lib.Pipeline.Frame

@[expose] public section

set_option maxRecDepth 65536

noncomputable section

open Idealize.ShloMosaic Idealize.ShloMosaic.TcCoe Idealize.SL.Sem
open Cert.ReferenceIdeal Cert.ReferenceIdeal.Gen

namespace Cert.Vq.R

/-- The stretches by number. -/
def line : ℕ → Ops
  | 0 => enc.ops | 1 => squ.ops | 2 => st0.ops | 3 => st1.ops | 4 => st2.ops | 5 => st3.ops | 6 => zq.ops | 7 => m1.ops
  | 8 => m2.ops | 9 => m3.ops | 10 => m4.ops | 11 => bk1.ops | 12 => bk0.ops | 13 => tot.ops | 14 => dec.ops | _ => []

/-- The number of the first buffer each stretch writes. -/
def bound : ℕ → ℕ
  | 0 => 19 | 1 => 37 | 2 => 117 | 3 => 165 | 4 => 213 | 5 => 261 | 6 => 309 | 7 => 311
  | 8 => 315 | 9 => 320 | 10 => 324 | 11 => 325 | 12 => 414 | 13 => 503 | 14 => 512 | _ => 530

/-- Each stretch writes between its bounds. -/
theorem line_within : ∀ n, ∀ op ∈ line n, Within (bound n) (bound (n + 1)) op
  | 0 => enc_within | 1 => squ_within | 2 => st0_within | 3 => st1_within | 4 => st2_within | 5 => st3_within | 6 => zq_within
  | 7 => m1_within | 8 => m2_within | 9 => m3_within | 10 => m4_within | 11 => bk1_within | 12 => bk0_within | 13 => tot_within
  | 14 => dec_within | _ + 15 => all_nil

/-- The bounds grow. -/
theorem bound_mono : Monotone bound := monotone_nat_of_le_succ fun n => by
  rcases n with _ | _ | _ | _ | _ | _ | _ | _ | _ | _ | _ | _ | _ | _ | _ | n <;> first | exact le_rfl | (show (_ : ℕ) ≤ _; decide)

variable (V : Valuation τ sig (Elt Ideal))

/-- The contents after the first `n` stretches. -/
def X : ℕ → Valuation τ sig (Elt Ideal)
  | 0 => V
  | n + 1 => StableHlo.after (line n) (X n)

/-- A buffer numbered below a stretch's bound stays as it was from there on. -/
theorem stay (n : ℕ) {m : ℕ} (hm : n ≤ m) (r : Ref sig .tc) (hr : r.idx.val < bound n) :
    X V m (Proc.devRef .tc r) = X V n (Proc.devRef .tc r) := by
  induction m, hm using Nat.le_induction with
  | base => rfl
  | succ m hm ih => exact (keep (line_within m) r (.inl (lt_of_lt_of_le hr (bound_mono hm))) _).trans ih

/-- The run's contents are those after all the stretches. -/
theorem after_ops : StableHlo.after ops V = X V 15 := by
  simp only [ops, StableHlo.after_append]
  rfl

/-- The encoded rows. -/
def Z : M64 := encA (V (Proc.devRef .tc main_arg0)) (V (Proc.devRef .tc main_arg1)) (V (Proc.devRef .tc main_arg2)) (V (Proc.devRef .tc main_arg3))
  (V (Proc.devRef .tc main_arg4)) (V (Proc.devRef .tc main_arg5)) (V (Proc.devRef .tc main_arg6))

/-- The two shape parameters. -/
def SA : FVec Ideal S64 .f32 := shapeA (V (Proc.devRef .tc main_arg17))
/-- The second shape. -/
def SB : FVec Ideal S64 .f32 := shapeA (V (Proc.devRef .tc main_arg18))

/-- The code numbers and the codes of a residual. -/
def codes (r : M64) (C : FVec Ideal S256x64 .f32) : IVec S16384 32 := codeA (distA r C)
/-- The codes nearest to a residual. -/
def near (r : M64) (C : FVec Ideal S256x64 .f32) : M64 := takeA C (codes r C)

/-- The residuals. -/
def R0 : M64 := squashA (Z V) (SA V) (SB V)
/-- The residual after the first round. -/
def R1 : M64 := subf (R0 V) (near (R0 V) (V (Proc.devRef .tc main_arg13)))
/-- The residual after the second round. -/
def R2 : M64 := subf (R1 V) (near (R1 V) (V (Proc.devRef .tc main_arg14)))
/-- The residual after the third round. -/
def R3 : M64 := subf (R2 V) (near (R2 V) (V (Proc.devRef .tc main_arg15)))

/-- The sums of the codes. -/
def T0 : M64 := addf (splat 0x00000000#32) (near (R0 V) (V (Proc.devRef .tc main_arg13)))
/-- The sum of the first two codes. -/
def T1 : M64 := addf (T0 V) (near (R1 V) (V (Proc.devRef .tc main_arg14)))
/-- The sum of the first three codes. -/
def T2 : M64 := addf (T1 V) (near (R2 V) (V (Proc.devRef .tc main_arg15)))
/-- The sum of the four codes. -/
def T3 : M64 := addf (T2 V) (near (R3 V) (V (Proc.devRef .tc main_arg16)))

/-- The losses of the rounds. -/
def L0 : FVec Ideal S_ .f32 := lossA (near (R0 V) (V (Proc.devRef .tc main_arg13))) (R0 V)
/-- The loss of the second round. -/
def L1 : FVec Ideal S_ .f32 := lossA (near (R1 V) (V (Proc.devRef .tc main_arg14))) (R1 V)
/-- The loss of the third round. -/
def L2 : FVec Ideal S_ .f32 := lossA (near (R2 V) (V (Proc.devRef .tc main_arg15))) (R2 V)
/-- The loss of the last round. -/
def L3 : FVec Ideal S_ .f32 := lossA (near (R3 V) (V (Proc.devRef .tc main_arg16))) (R3 V)

/-- The quantized rows. -/
def Y : M64 := addf (R0 V) (subf (T3 V) (R0 V))

/-- The encoder's rows. -/
theorem x_z : X V 1 (Proc.devRef .tc main_v13) = Z V := enc_z V

/-- After the squashing. -/
theorem x_r0 : X V 2 (Proc.devRef .tc main_v38) = R0 V := by
  refine (squ_r (X V 1)).trans ?_
  rw [x_z, stay V 0 (by decide) main_arg17 (by decide), stay V 0 (by decide) main_arg18 (by decide)]
  rfl

/-- After the first round. -/
theorem x_st0 : X V 3 (Proc.devRef .tc main_v54) = codes (R0 V) (V (Proc.devRef .tc main_arg13)) ∧ X V 3 (Proc.devRef .tc main_v71) = L0 V
    ∧ X V 3 (Proc.devRef .tc main_v72) = T0 V ∧ X V 3 (Proc.devRef .tc main_v73) = R1 V := by
  have hr := x_r0 V
  have hC := stay V 0 (m := 2) (by decide) main_arg13 (by decide)
  have hs : X V 2 (Proc.devRef .tc main_v39) = splat 0x00000000#32 := squ_o (X V 1)
  refine ⟨(st0_k (X V 2)).trans ?_, (st0_l (X V 2)).trans ?_, (st0_s (X V 2)).trans ?_, (st0_r (X V 2)).trans ?_⟩
  all_goals simp only [hr, hC, hs]; rfl

/-- After the second round. -/
theorem x_st1 : X V 4 (Proc.devRef .tc main_v88) = codes (R1 V) (V (Proc.devRef .tc main_arg14)) ∧ X V 4 (Proc.devRef .tc main_v105) = L1 V
    ∧ X V 4 (Proc.devRef .tc main_v106) = T1 V ∧ X V 4 (Proc.devRef .tc main_v107) = R2 V := by
  obtain ⟨-, -, hs, hr⟩ := x_st0 V
  have hC := stay V 0 (m := 3) (by decide) main_arg14 (by decide)
  refine ⟨(st1_k (X V 3)).trans ?_, (st1_l (X V 3)).trans ?_, (st1_s (X V 3)).trans ?_, (st1_r (X V 3)).trans ?_⟩
  all_goals simp only [hr, hC, hs]; rfl

/-- After the third round. -/
theorem x_st2 : X V 5 (Proc.devRef .tc main_v122) = codes (R2 V) (V (Proc.devRef .tc main_arg15)) ∧ X V 5 (Proc.devRef .tc main_v139) = L2 V
    ∧ X V 5 (Proc.devRef .tc main_v140) = T2 V ∧ X V 5 (Proc.devRef .tc main_v141) = R3 V := by
  obtain ⟨-, -, hs, hr⟩ := x_st1 V
  have hC := stay V 0 (m := 4) (by decide) main_arg15 (by decide)
  refine ⟨(st2_k (X V 4)).trans ?_, (st2_l (X V 4)).trans ?_, (st2_s (X V 4)).trans ?_, (st2_r (X V 4)).trans ?_⟩
  all_goals simp only [hr, hC, hs]; rfl

/-- After the fourth round. -/
theorem x_st3 : X V 6 (Proc.devRef .tc main_v156) = codes (R3 V) (V (Proc.devRef .tc main_arg16)) ∧ X V 6 (Proc.devRef .tc main_v173) = L3 V
    ∧ X V 6 (Proc.devRef .tc main_v174) = T3 V := by
  obtain ⟨-, -, hs, hr⟩ := x_st2 V
  have hC := stay V 0 (m := 5) (by decide) main_arg16 (by decide)
  refine ⟨(st3_k (X V 5)).trans ?_, (st3_l (X V 5)).trans ?_, (st3_s (X V 5)).trans ?_⟩
  all_goals simp only [hr, hC, hs]; rfl

/-- The quantized rows. -/
theorem x_y : X V 7 (Proc.devRef .tc main_v177) = Y V := by
  refine (zq_y (X V 6)).trans ?_
  rw [stay V 2 (by decide) main_v38 (by decide), x_r0, (x_st3 V).2.2]
  rfl

/-- The mean of the losses. -/
theorem x_l : X V 9 (Proc.devRef .tc main_v184) = fourA fun s => oneA (![L0 V, L1 V, L2 V, L3 V] s) := by
  refine (m2_l (X V 8)).trans ?_
  have h0 : X V 8 (Proc.devRef .tc main_v178) = oneA (L0 V) := (m1_0 (X V 7)).trans (by
    rw [stay V 3 (by decide) main_v71 (by decide), (x_st0 V).2.1])
  have h1 : X V 8 (Proc.devRef .tc main_v179) = oneA (L1 V) := (m1_1 (X V 7)).trans (by
    rw [stay V 4 (by decide) main_v105 (by decide), (x_st1 V).2.1])
  have h2 : X V 8 (Proc.devRef .tc main_v180) = oneA (L2 V) := (m1_2 (X V 7)).trans (by
    rw [stay V 5 (by decide) main_v139 (by decide), (x_st2 V).2.1])
  have h3 : X V 8 (Proc.devRef .tc main_v181) = oneA (L3 V) := (m1_3 (X V 7)).trans (by
    rw [stay V 6 (by decide) main_v173 (by decide), (x_st3 V).2.1])
  rw [h0, h1, h2, h3]
  rfl

/-- The code numbers of the four rounds. -/
def codesOf : Fin 4 → IVec S16384 32 :=
  ![codes (R0 V) (V (Proc.devRef .tc main_arg13)), codes (R1 V) (V (Proc.devRef .tc main_arg14)),
    codes (R2 V) (V (Proc.devRef .tc main_arg15)), codes (R3 V) (V (Proc.devRef .tc main_arg16))]

/-- The third result. -/
theorem x_k : X V 15 (Proc.devRef .tc main_v189) = colsA fun s => colA (codesOf V s) := by
  refine (stay V 11 (by decide) main_v189 (by decide)).trans ((m4_k (X V 10)).trans ?_)
  have h0 : X V 10 (Proc.devRef .tc main_v185) = colA (codesOf V 0) := (m3_0 (X V 9)).trans (by
    rw [stay V 3 (by decide) main_v54 (by decide), (x_st0 V).1]; rfl)
  have h1 : X V 10 (Proc.devRef .tc main_v186) = colA (codesOf V 1) := (m3_1 (X V 9)).trans (by
    rw [stay V 4 (by decide) main_v88 (by decide), (x_st1 V).1]; rfl)
  have h2 : X V 10 (Proc.devRef .tc main_v187) = colA (codesOf V 2) := (m3_2 (X V 9)).trans (by
    rw [stay V 5 (by decide) main_v122 (by decide), (x_st2 V).1]; rfl)
  have h3 : X V 10 (Proc.devRef .tc main_v188) = colA (codesOf V 3) := (m3_3 (X V 9)).trans (by
    rw [stay V 6 (by decide) main_v156 (by decide), (x_st3 V).1]; rfl)
  rw [h0, h1, h2, h3]
  rfl

/-- The second result. -/
theorem x_tot : X V 15 (Proc.devRef .tc main_v251)
    = totA (fourA fun s => oneA (![L0 V, L1 V, L2 V, L3 V] s)) (backA (R0 V) (SA V) (SB V)) (Z V) := by
  refine (stay V 14 (by decide) main_v251 (by decide)).trans ((tot_l (X V 13)).trans ?_)
  have hb : X V 13 (Proc.devRef .tc main_v245) = backA (R0 V) (SA V) (SB V) := (bk0_y (X V 12)).trans (by
    rw [stay V 2 (by decide) main_v38 (by decide), x_r0, stay V 0 (by decide) main_arg17 (by decide), stay V 0 (by decide) main_arg18 (by decide)]
    rfl)
  rw [hb, stay V 9 (by decide) main_v184 (by decide), x_l, stay V 1 (by decide) main_v13 (by decide), x_z]

/-- The first result. -/
theorem x_out : X V 15 (Proc.devRef .tc main_v265) = decA (backA (Y V) (SA V) (SB V)) (V (Proc.devRef .tc main_arg7))
    (V (Proc.devRef .tc main_arg8)) (V (Proc.devRef .tc main_arg9)) (V (Proc.devRef .tc main_arg10)) (V (Proc.devRef .tc main_arg11))
    (V (Proc.devRef .tc main_arg12)) := by
  refine (dec_y (X V 14)).trans ?_
  have hb : X V 12 (Proc.devRef .tc main_v217) = backA (Y V) (SA V) (SB V) := (bk1_y (X V 11)).trans (by
    rw [stay V 7 (by decide) main_v177 (by decide), x_y, stay V 0 (by decide) main_arg17 (by decide), stay V 0 (by decide) main_arg18 (by decide)]
    rfl)
  rw [stay V 12 (by decide) main_v217 (by decide), hb]
  simp only [stay V 0 (m := 14) (by decide) main_arg7 (by decide), stay V 0 (m := 14) (by decide) main_arg8 (by decide),
    stay V 0 (m := 14) (by decide) main_arg9 (by decide), stay V 0 (m := 14) (by decide) main_arg10 (by decide),
    stay V 0 (m := 14) (by decide) main_arg11 (by decide), stay V 0 (m := 14) (by decide) main_arg12 (by decide)]
  rfl

end Cert.Vq.R

end
-- ==== Proof.RefValue.lean ====
/-
  The reference's three results read by coordinates: the specification's.
-/
module

public import proofs.«01_k».proof.Proof.RefChain

@[expose] public section

set_option maxRecDepth 65536

noncomputable section

open Idealize.ShloMosaic Idealize.ShloMosaic.TcCoe Idealize.SL.Sem
open Cert.ReferenceIdeal Cert.ReferenceIdeal.Gen

namespace Cert.Vq.R

/-- A matrix read by coordinates. -/
abbrev mat {m n : ℕ} (v : (⟨2, ![m, n]⟩ : Shape).Idx → EReal) : Fin m → Fin n → EReal := fun i j => v (ix2 i j)

/-- A vector read as a row. -/
abbrev vec {n : ℕ} (v : (⟨1, ![n]⟩ : Shape).Idx → EReal) : Fin n → EReal := fun j => v (ix1 j)

variable (V : Valuation τ sig (Elt Ideal))

/-- The arguments in the buffers the run starts from. -/
def argsV : Args where
  x := mat (V (Proc.devRef .tc main_arg0))
  W1 := mat (V (Proc.devRef .tc main_arg1))
  b1 := vec (V (Proc.devRef .tc main_arg2))
  W2 := mat (V (Proc.devRef .tc main_arg3))
  b2 := vec (V (Proc.devRef .tc main_arg4))
  W3 := mat (V (Proc.devRef .tc main_arg5))
  b3 := vec (V (Proc.devRef .tc main_arg6))
  W4 := mat (V (Proc.devRef .tc main_arg7))
  b4 := vec (V (Proc.devRef .tc main_arg8))
  W5 := mat (V (Proc.devRef .tc main_arg9))
  b5 := vec (V (Proc.devRef .tc main_arg10))
  W6 := mat (V (Proc.devRef .tc main_arg11))
  b6 := vec (V (Proc.devRef .tc main_arg12))
  C0 := mat (V (Proc.devRef .tc main_arg13))
  C1 := mat (V (Proc.devRef .tc main_arg14))
  C2 := mat (V (Proc.devRef .tc main_arg15))
  C3 := mat (V (Proc.devRef .tc main_arg16))
  a := vec (V (Proc.devRef .tc main_arg17))
  b := vec (V (Proc.devRef .tc main_arg18))

/-- The code numbers of a residual, read at a row. -/
theorem codes_at (r : M64) (C : FVec Ideal S256x64 .f32) (ρ : Fin 16384 → Fin 64 → EReal) (hr : ∀ i q, r (ix2 i q) = ρ i q) (i : Fin 16384) :
    codes r C (ix1 i) = BitVec.ofNat 32 (pick (ρ i) (mat C) : ℕ) := by
  refine (code_at (distA r C) i).trans (congrArg (fun k : Fin 256 => BitVec.ofNat 32 (k : ℕ)) ?_)
  unfold pick
  refine congrArg code (funext fun k => ?_)
  rw [dist_at, show (fun q => r (ix2 i q)) = ρ i from funext (hr i)]

/-- The codes of a residual, read at an entry. -/
theorem near_at (r : M64) (C : FVec Ideal S256x64 .f32) (ρ : Fin 16384 → Fin 64 → EReal) (hr : ∀ i q, r (ix2 i q) = ρ i q) (i : Fin 16384)
    (q : Fin 64) : near r C (ix2 i q) = mat C (pick (ρ i) (mat C)) q :=
  take_at C (codes r C) i _ (codes_at r C ρ hr i) q

/-- A residual after one more round, read at an entry. -/
theorem next_at (r : M64) (C : FVec Ideal S256x64 .f32) (ρ : Fin 16384 → Fin 64 → EReal) (hr : ∀ i q, r (ix2 i q) = ρ i q) (i : Fin 16384)
    (q : Fin 64) : (subf r (near r C) : M64) (ix2 i q) = next (ρ i) (mat C) q := by
  show r (ix2 i q) - near r C (ix2 i q) = _
  rw [near_at r C ρ hr, hr]; rfl

/-- The loss of a round: the sum of the squares of the residual after it. -/
theorem round_at (r : M64) (C : FVec Ideal S256x64 .f32) (ρ : Fin 16384 → Fin 64 → EReal) (hr : ∀ i q, r (ix2 i q) = ρ i q) (x : S_.Idx) :
    lossA (near r C) r x = loss (∑ i, ∑ q, next (ρ i) (mat C) q * next (ρ i) (mat C) q) := by
  rw [loss_at]
  refine congrArg loss (Finset.sum_congr rfl fun i _ => Finset.sum_congr rfl fun q _ => ?_)
  rw [near_at r C ρ hr, hr, sq_swap]; rfl

/-- The encoder's rows, read at an entry. -/
theorem z_at (i : Fin 16384) (q : Fin 64) : Z V (ix2 i q) = (argsV V).z i q := enc_at _ _ _ _ _ _ _ i q

/-- The first shape, read at a feature. -/
theorem sa_at (q : Fin 64) : SA V (ix1 q) = shape ((argsV V).a q) := shape_at _ q
/-- The second shape, read at a feature. -/
theorem sb_at (q : Fin 64) : SB V (ix1 q) = shape ((argsV V).b q) := shape_at _ q

/-- The rows that the rounds start from, read at an entry. -/
theorem r0_at (i : Fin 16384) (q : Fin 64) : R0 V (ix2 i q) = (argsV V).r0 i q := by
  refine (squash_at _ _ _ i q).trans ?_
  rw [z_at, sa_at, sb_at]; rfl

/-- The residual after the first round. -/
theorem r1_at (i : Fin 16384) (q : Fin 64) : R1 V (ix2 i q) = (argsV V).r1 i q := next_at _ _ _ (r0_at V) i q
/-- The residual after the second round. -/
theorem r2_at (i : Fin 16384) (q : Fin 64) : R2 V (ix2 i q) = (argsV V).r2 i q := next_at _ _ _ (r1_at V) i q
/-- The residual after the third round. -/
theorem r3_at (i : Fin 16384) (q : Fin 64) : R3 V (ix2 i q) = (argsV V).r3 i q := next_at _ _ _ (r2_at V) i q

/-- The sum of the codes, read at an entry. -/
theorem t3_at (i : Fin 16384) (q : Fin 64) : T3 V (ix2 i q) = (argsV V).qt i q := by
  have h0 : Ideal.ofBits .f32 0x00000000#32 = 0 := by simp [Ideal.ofBits, Ideal.ieee]
  show Ideal.ofBits .f32 0x00000000#32 + near (R0 V) _ (ix2 i q) + near (R1 V) _ (ix2 i q) + near (R2 V) _ (ix2 i q) + near (R3 V) _ (ix2 i q) = _
  rw [h0, zero_add, near_at _ _ _ (r0_at V), near_at _ _ _ (r1_at V), near_at _ _ _ (r2_at V), near_at _ _ _ (r3_at V)]
  rfl

/-- A real added and taken away again. -/
theorem add_sub_real (r : ℝ) (t : EReal) : (r : EReal) + (t - r) = t := by
  induction t using EReal.rec with
  | coe t => rw [← EReal.coe_sub, ← EReal.coe_add]; congr 1; ring
  | top => simp
  | bot => simp

/-- The quantized rows are the sums of the codes. -/
theorem y_at (i : Fin 16384) (q : Fin 64) : Y V (ix2 i q) = (argsV V).qt i q := by
  show R0 V (ix2 i q) + (T3 V (ix2 i q) - R0 V (ix2 i q)) = _
  obtain ⟨t, ht, -, hT⟩ := top1_real
  obtain ⟨r, -, hr⟩ : ∃ r : ℝ, 0 < r ∧ R0 V (ix2 i q) = (r : EReal) := by
    rw [r0_at]
    unfold Args.r0 squash
    rw [hT]
    exact clip_real t (by linarith) _
  rw [hr, add_sub_real, t3_at]

/-- Rows mapped back, read at an entry. -/
theorem backA_at (y : M64) (υ : Fin 16384 → Fin 64 → EReal) (hy : ∀ i q, y (ix2 i q) = υ i q) (i : Fin 16384) (q : Fin 64) :
    backA y (SA V) (SB V) (ix2 i q) = (argsV V).back (υ i) q := by
  rw [back_at, hy, sa_at, sb_at]; rfl

/-- The first result. -/
theorem out_at (i : Fin 16384) (j : Fin 768) : (StableHlo.after ops V (Proc.devRef .tc main_v265) : S16384x768.Idx → EReal) (ix2 i j) = (argsV V).out i j := by
  rw [after_ops, x_out]
  refine (dec_at _ _ _ _ _ _ _ i j).trans ?_
  rw [show (fun q => backA (Y V) (SA V) (SB V) (ix2 i q)) = (argsV V).back ((argsV V).qt i) from
    funext fun q => backA_at V _ (argsV V).qt (y_at V) i q]
  rfl

/-- The code numbers of the four rounds, read at a row. -/
theorem codesOf_at (i : Fin 16384) : ∀ s : Fin 4, codesOf V s (ix1 i) = BitVec.ofNat 32 ((argsV V).idx i s : ℕ)
  | 0 => (congrFun (show codesOf V 0 = codes (R0 V) (V (Proc.devRef .tc main_arg13)) from rfl) (ix1 i)).trans
    ((codes_at _ _ _ (r0_at V) i).trans (congrArg (fun k : Fin 256 => BitVec.ofNat 32 (k : ℕ))
      (show (argsV V).k0 i = (argsV V).idx i 0 from rfl)))
  | 1 => (congrFun (show codesOf V 1 = codes (R1 V) (V (Proc.devRef .tc main_arg14)) from rfl) (ix1 i)).trans
    ((codes_at _ _ _ (r1_at V) i).trans (congrArg (fun k : Fin 256 => BitVec.ofNat 32 (k : ℕ))
      (show (argsV V).k1 i = (argsV V).idx i 1 from rfl)))
  | 2 => (congrFun (show codesOf V 2 = codes (R2 V) (V (Proc.devRef .tc main_arg15)) from rfl) (ix1 i)).trans
    ((codes_at _ _ _ (r2_at V) i).trans (congrArg (fun k : Fin 256 => BitVec.ofNat 32 (k : ℕ))
      (show (argsV V).k2 i = (argsV V).idx i 2 from rfl)))
  | 3 => (congrFun (show codesOf V 3 = codes (R3 V) (V (Proc.devRef .tc main_arg16)) from rfl) (ix1 i)).trans
    ((codes_at _ _ _ (r3_at V) i).trans (congrArg (fun k : Fin 256 => BitVec.ofNat 32 (k : ℕ))
      (show (argsV V).k3 i = (argsV V).idx i 3 from rfl)))

/-- The third result. -/
theorem idx_at (i : Fin 16384) (s : Fin 4) :
    (StableHlo.after ops V (Proc.devRef .tc main_v189) : S16384x4.Idx → BitVec 32) (ix2 i s) = BitVec.ofNat 32 ((argsV V).idx i s : ℕ) :=
  (congrFun ((congrFun (after_ops V) _).trans (x_k V)) (ix2 i s)).trans ((cols_at (codesOf V) i s).trans (codesOf_at V i s))

/-- A sum of squares is not negative. -/
theorem squares_nonneg {m n : ℕ} (g : Fin m → Fin n → EReal) : 0 ≤ ∑ p, ∑ q, g p q * g p q :=
  Finset.sum_nonneg fun _ _ => Finset.sum_nonneg fun _ _ => sq_nonneg' _

/-- The second result. -/
theorem tot_value (x : S_.Idx) : (StableHlo.after ops V (Proc.devRef .tc main_v251) : S_.Idx → EReal) x
    = ((∑ i, ∑ q, (argsV V).r1 i q * (argsV V).r1 i q) + (∑ i, ∑ q, (argsV V).r2 i q * (argsV V).r2 i q)
      + (∑ i, ∑ q, (argsV V).r3 i q * (argsV V).r3 i q) + ∑ i, ∑ q, (argsV V).r4 i q * (argsV V).r4 i q) * Ideal.ofBits .f32 0x34A00000#32
      + (∑ i, ∑ q, (argsV V).nv i q) * Ideal.ofBits .f32 0x35800000#32 := by
  rw [after_ops, x_tot]
  refine (tot_at _ _ _ x).trans ?_
  rw [four_at, mean_nv]
  congr 1
  · rw [← mean_loss _ _ _ _ (squares_nonneg _) (squares_nonneg _) (squares_nonneg _) (squares_nonneg _)]
    refine congrArg (fun S => Ideal.div S (Ideal.ofBits .f32 0x40800000#32)) ?_
    show L0 V x + L1 V x + L2 V x + L3 V x = _
    unfold L0 L1 L2 L3
    rw [round_at _ _ _ (r0_at V), round_at _ _ _ (r1_at V), round_at _ _ _ (r2_at V), round_at _ _ _ (r3_at V)]
    rfl
  · refine congrArg (· * Ideal.ofBits .f32 0x35800000#32) (Finset.sum_congr rfl fun i _ => Finset.sum_congr rfl fun q _ => ?_)
    rw [backA_at V _ (argsV V).r0 (r0_at V), z_at]; rfl

end Cert.Vq.R

end
-- ==== Proof.RefResult.lean ====
/-
  The reference's run: its three results are the specification's, and its arguments end as they were.
-/
module

public import proofs.«01_k».proof.Proof.RefValue

@[expose] public section

set_option maxRecDepth 65536

noncomputable section

open Idealize.ShloMosaic Idealize.ShloMosaic.TcCoe Idealize.SL.Sem
open Cert.ReferenceIdeal Cert.ReferenceIdeal.Gen

namespace Cert.Vq.R

variable (m : (ℓ : Loc nD τ sig) → Buf (Elt Ideal) ℓ) (ρ : Dev nD → PrngReg)

/-- An argument keeps what the run started from. -/
theorem kept (c : Dev nD) (b : Ref sig .tc) (hb : b.idx.val < 19) :
    StableHlo.after ops (StableHlo.launchContents m c) (Proc.devRef .tc b) = m ((c.tc : Thread nD τ).loc b) :=
  keep ops_within b (.inl hb) _

/-- The arguments a memory of the reference holds. -/
def args (c : Dev nD) : Args := argsV (StableHlo.launchContents m c)

/-- The loss, from the rows of the specification. -/
def total (A : Args) : EReal :=
  ((∑ i, ∑ q, A.r1 i q * A.r1 i q) + (∑ i, ∑ q, A.r2 i q * A.r2 i q) + (∑ i, ∑ q, A.r3 i q * A.r3 i q)
    + ∑ i, ∑ q, A.r4 i q * A.r4 i q) * Ideal.ofBits .f32 0x34A00000#32 + (∑ i, ∑ q, A.nv i q) * Ideal.ofBits .f32 0x35800000#32

/-- The first result, whole. -/
theorem out_whole (c : Dev nD) : StableHlo.after ops (StableHlo.launchContents m c) (Proc.devRef .tc main_v265)
    = (fun j : S16384x768.Idx => (args m c).out (j 0) (j 1)) :=
  funext fun j => (congrArg (StableHlo.after ops (StableHlo.launchContents m c) (Proc.devRef .tc main_v265) : S16384x768.Idx → EReal)
    (ix2_eta j).symm).trans (out_at _ (j 0) (j 1))

/-- The second result, whole. -/
theorem tot_whole (c : Dev nD) : StableHlo.after ops (StableHlo.launchContents m c) (Proc.devRef .tc main_v251)
    = (fun _ : S_.Idx => total (args m c)) :=
  funext fun x => tot_value _ x

/-- The third result, whole. -/
theorem idx_whole (c : Dev nD) : StableHlo.after ops (StableHlo.launchContents m c) (Proc.devRef .tc main_v189)
    = (fun j : S16384x4.Idx => BitVec.ofNat 32 ((args m c).idx (j 0) (j 1) : ℕ)) :=
  funext fun j => (congrArg (StableHlo.after ops (StableHlo.launchContents m c) (Proc.devRef .tc main_v189) : S16384x4.Idx → BitVec 32)
    (ix2_eta j).symm).trans (idx_at _ (j 0) (j 1))

/-- A memory with what the operations leave in it holds the arguments it started with. -/
theorem unchanged {M : (ℓ : Loc nD τ sig) → Buf (Elt Ideal) ℓ} (c : Dev nD)
    (h : ∀ b : Ref sig .tc, M ((c.tc : Thread nD τ).loc b) = StableHlo.after ops (StableHlo.launchContents m c) (Proc.devRef .tc b)) :
    M ((c.tc : Thread nD τ).loc main_arg0) = m ((c.tc : Thread nD τ).loc main_arg0)
    ∧ M ((c.tc : Thread nD τ).loc main_arg1) = m ((c.tc : Thread nD τ).loc main_arg1)
    ∧ M ((c.tc : Thread nD τ).loc main_arg2) = m ((c.tc : Thread nD τ).loc main_arg2)
    ∧ M ((c.tc : Thread nD τ).loc main_arg3) = m ((c.tc : Thread nD τ).loc main_arg3)
    ∧ M ((c.tc : Thread nD τ).loc main_arg4) = m ((c.tc : Thread nD τ).loc main_arg4)
    ∧ M ((c.tc : Thread nD τ).loc main_arg5) = m ((c.tc : Thread nD τ).loc main_arg5)
    ∧ M ((c.tc : Thread nD τ).loc main_arg6) = m ((c.tc : Thread nD τ).loc main_arg6)
    ∧ M ((c.tc : Thread nD τ).loc main_arg7) = m ((c.tc : Thread nD τ).loc main_arg7)
    ∧ M ((c.tc : Thread nD τ).loc main_arg8) = m ((c.tc : Thread nD τ).loc main_arg8)
    ∧ M ((c.tc : Thread nD τ).loc main_arg9) = m ((c.tc : Thread nD τ).loc main_arg9)
    ∧ M ((c.tc : Thread nD τ).loc main_arg10) = m ((c.tc : Thread nD τ).loc main_arg10)
    ∧ M ((c.tc : Thread nD τ).loc main_arg11) = m ((c.tc : Thread nD τ).loc main_arg11)
    ∧ M ((c.tc : Thread nD τ).loc main_arg12) = m ((c.tc : Thread nD τ).loc main_arg12)
    ∧ M ((c.tc : Thread nD τ).loc main_arg13) = m ((c.tc : Thread nD τ).loc main_arg13)
    ∧ M ((c.tc : Thread nD τ).loc main_arg14) = m ((c.tc : Thread nD τ).loc main_arg14)
    ∧ M ((c.tc : Thread nD τ).loc main_arg15) = m ((c.tc : Thread nD τ).loc main_arg15)
    ∧ M ((c.tc : Thread nD τ).loc main_arg16) = m ((c.tc : Thread nD τ).loc main_arg16)
    ∧ M ((c.tc : Thread nD τ).loc main_arg17) = m ((c.tc : Thread nD τ).loc main_arg17)
    ∧ M ((c.tc : Thread nD τ).loc main_arg18) = m ((c.tc : Thread nD τ).loc main_arg18) :=
  have k := fun b hb => (h b).trans (kept m c b hb)
  ⟨k main_arg0 (by decide), k main_arg1 (by decide), k main_arg2 (by decide), k main_arg3 (by decide),
    k main_arg4 (by decide), k main_arg5 (by decide), k main_arg6 (by decide), k main_arg7 (by decide),
    k main_arg8 (by decide), k main_arg9 (by decide), k main_arg10 (by decide), k main_arg11 (by decide),
    k main_arg12 (by decide), k main_arg13 (by decide), k main_arg14 (by decide), k main_arg15 (by decide),
    k main_arg16 (by decide), k main_arg17 (by decide), k main_arg18 (by decide)⟩

end Cert.Vq.R

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_codes_below_infinity_shapes_small
public import proofs.«01_k».proof.Proof.LossSum
public import proofs.«01_k».proof.Proof.Precondition
public import proofs.«01_k».proof.Proof.RefResult
public import Idealize.ShloMosaic.Adequacy
public import Idealize.ShloMosaic.Init

@[expose] public section

noncomputable section

namespace Cert.Proof

open Idealize.ShloMosaic Idealize.SL.Sem

/-- The reference leaves its arguments as they were, and no semaphore raised. -/
theorem reference_frame : Cert.quiescent_ReferenceIdeal (hReferenceIdeal := Cert.ReferenceIdeal.Gen.facts) := fun m g _ =>
  (θ_run Cert.ReferenceIdeal.defs _ _).mono
    (fun r h => ⟨fun c => Cert.Vq.R.unchanged m c (h c),
      Idealize.ShloMosaic.sem_eq_zero_of_no_sems (by decide) r.2⟩)
    (Cert.Vq.R.run m g)

/-- The kernel and the reference, started from the same arguments, end with the same three results: both end with the
    specification's, and the kernel's sum of the losses of its blocks is the reference's one loss. -/
theorem same_results : Cert.algebraic_KernelIdeal_ReferenceIdeal_pre_codes_below_infinity_shapes_small
    (hKernelIdeal := Cert.KernelIdeal.Gen.facts) (hReferenceIdeal := Cert.ReferenceIdeal.Gen.facts)
    (hPre_codes_below_infinity_shapes_small := Cert.Pre_codes_below_infinity_shapes_small.Gen.facts) := by
  intro m g m' g' hp ha
  have E : ∀ c : Dev Cert.KernelIdeal.nD, Cert.Vq.R.args m' c = Cert.Vq.K.args m c := fun c => by
    obtain ⟨h0, h1, h2, h3, h4, h5, h6, h7, h8, h9, h10, h11, h12, h13, h14, h15, h16, h17, h18⟩ := ha c
    unfold Cert.Vq.R.args Cert.Vq.R.argsV Cert.Vq.K.args
    rw [Cert.Vq.Args.mk.injEq]
    exact ⟨congrArg Cert.Vq.R.mat h0, congrArg Cert.Vq.R.mat h1, congrArg Cert.Vq.R.vec h2, congrArg Cert.Vq.R.mat h3,
        congrArg Cert.Vq.R.vec h4, congrArg Cert.Vq.R.mat h5, congrArg Cert.Vq.R.vec h6, congrArg Cert.Vq.R.mat h7,
        congrArg Cert.Vq.R.vec h8, congrArg Cert.Vq.R.mat h9, congrArg Cert.Vq.R.vec h10, congrArg Cert.Vq.R.mat h11,
        congrArg Cert.Vq.R.vec h12, congrArg Cert.Vq.R.mat h13, congrArg Cert.Vq.R.mat h14, congrArg Cert.Vq.R.mat h15,
        congrArg Cert.Vq.R.mat h16, congrArg Cert.Vq.R.vec h17, congrArg Cert.Vq.R.vec h18⟩
  refine ⟨fun c => fun j => (Cert.Vq.K.args m c).out (j 0) (j 1), fun c => fun _ => Cert.Vq.K.lossSum (Cert.Vq.K.args m c),
    fun c => fun j => BitVec.ofNat 32 ((Cert.Vq.K.args m c).idx (j 0) (j 1) : ℕ), ?_, ?_⟩
  · exact (θ_run Cert.KernelIdeal.defs _ _).mono (fun r h c => ⟨(h.1 c).1, (h.1 c).2.1, (h.1 c).2.2, h.2 c⟩)
      (θ_run_and (Cert.Vq.K.run_results m g (Cert.Vq.K.fine_of_pre m hp)) (Cert.KernelIdeal.Gen.unchanged m g))
  · exact (θ_run Cert.ReferenceIdeal.defs _ _).mono (fun r h c => ⟨
        (h c Cert.ReferenceIdeal.main_v265).trans ((Cert.Vq.R.out_whole m' c).trans
          (congrArg (fun (A : Cert.Vq.Args) (j : Cert.ReferenceIdeal.S16384x768.Idx) => A.out (j 0) (j 1)) (E c))),
        (h c Cert.ReferenceIdeal.main_v251).trans ((Cert.Vq.R.tot_whole m' c).trans
          (funext fun _ => (congrArg Cert.Vq.R.total (E c)).trans (Cert.Vq.K.lossSum_eq (Cert.Vq.K.args m c)).symm)),
        (h c Cert.ReferenceIdeal.main_v189).trans ((Cert.Vq.R.idx_whole m' c).trans
          (congrArg (fun (A : Cert.Vq.Args) (j : Cert.ReferenceIdeal.S16384x4.Idx) => BitVec.ofNat 32 (A.idx (j 0) (j 1) : ℕ)) (E c))),
        Cert.Vq.R.unchanged m' c (h c)⟩)
      (Cert.Vq.R.run m' g')

/-- The certificate: the frames of the three programs, and the same three results of kernel and reference. -/
theorem claim : Cert.Claim := ⟨Cert.Kernel.Gen.facts, Cert.KernelIdeal.Gen.facts, Cert.ReferenceIdeal.Gen.facts, Cert.Pre_codes_below_infinity_shapes_small.Gen.facts,
  fun m g _ => Cert.Kernel.Gen.frame m g,
  fun m g _ => Cert.KernelIdeal.Gen.frame m g,
  fun m g _ => Cert.KernelIdeal.Gen.frame m g,
  reference_frame,
  fun m g _ => reference_frame m g trivial,
  trivial,
  same_results⟩

end Cert.Proof

end
